-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fractional_masks [hPre_fractional_masks : Cert.Pre_fractional_masks.Facts] (m : (ℓ : Loc Cert.KernelIdeal.nD Cert.KernelIdeal.τ Cert.KernelIdeal.sig) → Buf (Elt Ideal) ℓ) : Prop :=
  ∀ c : Dev Cert.KernelIdeal.nD,
    (Cert.Pre_fractional_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fractional_masks [hPre_fractional_masks : Cert.Pre_fractional_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fractional_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fractional_masks [hKernelIdeal : Cert.KernelIdeal.Facts] [hPre_fractional_masks : Cert.Pre_fractional_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fractional_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fractional_masks [hReferenceIdeal : Cert.ReferenceIdeal.Facts] [hPre_fractional_masks : Cert.Pre_fractional_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fractional_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fractional_masks [hKernelIdeal : Cert.KernelIdeal.Facts] [hReferenceIdeal : Cert.ReferenceIdeal.Facts] [hPre_fractional_masks : Cert.Pre_fractional_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fractional_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fractional_masks : Cert.Pre_fractional_masks.Facts),
    quiescent_Kernel (hKernel := hKernel)
    ∧ quiescent_KernelIdeal (hKernelIdeal := hKernelIdeal)
    ∧ quiescent_KernelIdeal_pre_fractional_masks (hKernelIdeal := hKernelIdeal) (hPre_fractional_masks := hPre_fractional_masks)
    ∧ quiescent_ReferenceIdeal (hReferenceIdeal := hReferenceIdeal)
    ∧ quiescent_ReferenceIdeal_pre_fractional_masks (hReferenceIdeal := hReferenceIdeal) (hPre_fractional_masks := hPre_fractional_masks)
    ∧ preserves_Kernel_KernelIdeal
    ∧ algebraic_KernelIdeal_ReferenceIdeal_pre_fractional_masks (hKernelIdeal := hKernelIdeal) (hReferenceIdeal := hReferenceIdeal) (hPre_fractional_masks := hPre_fractional_masks)
-- ==== Pre_fractional_masks.lean ====
abbrev S8x128x128x2 : Shape := ⟨4, ![8, 128, 128, 2]⟩
abbrev S8x128x128 : Shape := ⟨3, ![8, 128, 128]⟩
abbrev S8x8x128x128 : Shape := ⟨4, ![8, 8, 128, 128]⟩
abbrev S8x1x128x128 : Shape := ⟨4, ![8, 1, 128, 128]⟩
abbrev S_ : Shape := ⟨0, ![]⟩

class Facts : Prop where
  bcast_S_S8x8x128x128 : S_.BroadcastsInDim S8x8x128x128 (![] : Fin 0 → Fin S8x8x128x128.rank)
  reducesTo_S8x8x128x128_S_d0_1_2_3 : S8x8x128x128.ReducesTo [0, 1, 2, 3] S_
  h_S_ : 0 < S_.numel

variable [Facts]

def fn {F : FTy → Type} [FloatOps F] (main_arg0 : FVec F S8x128x128x2 .f32) (main_arg1 : FVec F S8x128x128 .f32) (main_arg2 : FVec F S8x8x128x128 .f32) (main_arg3 : FVec F S8x1x128x128 .f32) (main_arg4 : FVec F S8x1x128x128 .f32) : IVec S_ 1 :=
  let main_cst : FVec F S_ .f32 := constant S_ .f32 0x00000000#32
  let main_v0 : FVec F S8x8x128x128 .f32 := broadcastInDim S8x8x128x128 ![] bcast_S_S8x8x128x128 main_cst
  let main_v1 : IVec S8x8x128x128 1 := cmpf .oge main_arg2 main_v0
  let main_cst_0 : FVec F S_ .f32 := constant S_ .f32 0x3F800000#32
  let main_v2 : FVec F S8x8x128x128 .f32 := broadcastInDim S8x8x128x128 ![] bcast_S_S8x8x128x128 main_cst_0
  let main_v3 : IVec S8x8x128x128 1 := cmpf .ole main_arg2 main_v2
  let main_v4 : IVec S8x8x128x128 1 := andi main_v1 main_v3
  let main_c : IVec S_ 1 := constantI S_ 1 1#1
  let main_v5 : IVec S_ 1 := (fun x v => Host.reduce IntOp.andi x v reducesTo_S8x8x128x128_S_d0_1_2_3 h_S_) main_v4 main_c
  main_v5
-- ==== Kernel.lean ====
abbrev S8x128x128x2 : Shape := ⟨4, ![8, 128, 128, 2]⟩
abbrev S8x128x128 : Shape := ⟨3, ![8, 128, 128]⟩
abbrev S8x8x128x128 : Shape := ⟨4, ![8, 8, 128, 128]⟩
abbrev S8x1x128x128 : Shape := ⟨4, ![8, 1, 128, 128]⟩
abbrev S8x128x128x1 : Shape := ⟨4, ![8, 128, 128, 1]⟩
abbrev S1x1 : Shape := ⟨2, ![1, 1]⟩
abbrev S2x128x128 : Shape := ⟨3, ![2, 128, 128]⟩
abbrev S2x8x128x128 : Shape := ⟨4, ![2, 8, 128, 128]⟩
abbrev S2x1x128x128 : Shape := ⟨4, ![2, 1, 128, 128]⟩
abbrev S128x128 : Shape := ⟨2, ![128, 128]⟩
abbrev S1x128x128 : Shape := ⟨3, ![1, 128, 128]⟩
abbrev S1x8x128x128 : Shape := ⟨4, ![1, 8, 128, 128]⟩
abbrev S1x1x128x128 : Shape := ⟨4, ![1, 1, 128, 128]⟩
abbrev S1 : Shape := ⟨1, ![1]⟩
abbrev S1x1x1 : Shape := ⟨3, ![1, 1, 1]⟩
abbrev S8 : Shape := ⟨1, ![8]⟩
abbrev S8x1x1 : Shape := ⟨3, ![8, 1, 1]⟩
abbrev S1x8 : Shape := ⟨2, ![1, 8]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S8x128x128x2, .f32⟩
  | .hbm, ⟨1, _⟩ => ⟨S8x128x128, .f32⟩
  | .hbm, ⟨2, _⟩ => ⟨S8x8x128x128, .f32⟩
  | .hbm, ⟨3, _⟩ => ⟨S8x1x128x128, .f32⟩
  | .hbm, ⟨4, _⟩ => ⟨S8x1x128x128, .f32⟩
  | .hbm, ⟨5, _⟩ => ⟨S8x128x128x1, .f32⟩
  | .hbm, ⟨6, _⟩ => ⟨S8x128x128, .f32⟩
  | .hbm, ⟨7, _⟩ => ⟨S8x128x128x1, .f32⟩
  | .hbm, ⟨8, _⟩ => ⟨S8x128x128, .f32⟩
  | .hbm, ⟨9, _⟩ => ⟨S1x1, .f32⟩
  | .hbm, ⟨10, _⟩ => ⟨S_, .f32⟩
  | .local _ .vmem, ⟨0, _⟩ => ⟨S2x128x128, .f32⟩
  | .local _ .vmem, ⟨1, _⟩ => ⟨S2x128x128, .f32⟩
  | .local _ .vmem, ⟨2, _⟩ => ⟨S2x128x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x8x128x128, .f32⟩
  | .local _ .vmem, ⟨7, _⟩ => ⟨S2x8x128x128, .f32⟩
  | .local _ .vmem, ⟨8, _⟩ => ⟨S2x1x128x128, .f32⟩
  | .local _ .vmem, ⟨9, _⟩ => ⟨S2x1x128x128, .f32⟩
  | .local _ .vmem, ⟨10, _⟩ => ⟨S2x1x128x128, .f32⟩
  | .local _ .vmem, ⟨11, _⟩ => ⟨S2x1x128x128, .f32⟩
  | .local _ .vmem, ⟨12, _⟩ => ⟨S1x1, .f32⟩
  | _, _ => ⟨S8x128x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x128x128x2 : Shape := ⟨4, ![8, 128, 128, 2]⟩
abbrev S8x128x128 : Shape := ⟨3, ![8, 128, 128]⟩
abbrev S8x8x128x128 : Shape := ⟨4, ![8, 8, 128, 128]⟩
abbrev S8x1x128x128 : Shape := ⟨4, ![8, 1, 128, 128]⟩
abbrev S8x16384 : Shape := ⟨2, ![8, 16384]⟩
abbrev S8x16384x2 : Shape := ⟨3, ![8, 16384, 2]⟩
abbrev S8x8x16384 : Shape := ⟨3, ![8, 8, 16384]⟩
abbrev S_ : Shape := ⟨0, ![]⟩
abbrev S8 : Shape := ⟨1, ![8]⟩
abbrev S8x1x16384 : Shape := ⟨3, ![8, 1, 16384]⟩
abbrev S8x8 : Shape := ⟨2, ![8, 8]⟩
abbrev S8x8x1 : Shape := ⟨3, ![8, 8, 1]⟩
abbrev S8x1 : Shape := ⟨2, ![8, 1]⟩
abbrev S8x8x2 : Shape := ⟨3, ![8, 8, 2]⟩
abbrev S8x1x16384x2 : Shape := ⟨4, ![8, 1, 16384, 2]⟩
abbrev S8x8x1x2 : Shape := ⟨4, ![8, 8, 1, 2]⟩
abbrev S8x8x16384x2 : Shape := ⟨4, ![8, 8, 16384, 2]⟩

abbrev nBuf : Space → Nat
  | .hbm => 162
  | .vmem => 0
  | .smem => 0
  | _ => 0

abbrev hbmTy0_0 (i : Nat) : BufTy := match i % 128 with
  | 0 => ⟨S8x128x128x2, .f32⟩
  | 1 => ⟨S8x128x128, .f32⟩
  | 2 => ⟨S8x8x128x128, .f32⟩
  | 3 => ⟨S8x1x128x128, .f32⟩
  | 4 => ⟨S8x1x128x128, .f32⟩
  | 5 => ⟨S8x16384, .f32⟩
  | 6 => ⟨S8x16384x2, .f32⟩
  | 7 => ⟨S8x8x16384, .f32⟩
  | 8 => ⟨S_, .f32⟩
  | 9 => ⟨S8x16384, .f32⟩
  | 10 => ⟨S_, .f32⟩
  | 11 => ⟨S8x16384, .f32⟩
  | 12 => ⟨S8x16384, .i1⟩
  | 13 => ⟨S8x16384, .f32⟩
  | 14 => ⟨S_, .f32⟩
  | 15 => ⟨S8x16384, .f32⟩
  | 16 => ⟨S8x16384, .f32⟩
  | 17 => ⟨S_, .f32⟩
  | 18 => ⟨S8x16384, .f32⟩
  | 19 => ⟨S8x16384, .f32⟩
  | 20 => ⟨S8x16384, .f32⟩
  | 21 => ⟨S8x16384, .f32⟩
  | 22 => ⟨S_, .f32⟩
  | 23 => ⟨S8x16384, .f32⟩
  | 24 => ⟨S8x16384, .f32⟩
  | 25 => ⟨S8x16384, .f32⟩
  | 26 => ⟨S_, .f32⟩
  | 27 => ⟨S8x16384, .f32⟩
  | 28 => ⟨S8x16384, .f32⟩
  | 29 => ⟨S8x1x128x128, .f32⟩
  | 30 => ⟨S8x1x128x128, .f32⟩
  | 31 => ⟨S8x16384, .f32⟩
  | 32 => ⟨S_, .f32⟩
  | 33 => ⟨S8x16384, .f32⟩
  | 34 => ⟨S8x16384, .f32⟩
  | 35 => ⟨S_, .f32⟩
  | 36 => ⟨S8x16384, .f32⟩
  | 37 => ⟨S8x16384, .f32⟩
  | 38 => ⟨S8x16384, .f32⟩
  | 39 => ⟨S_, .f32⟩
  | 40 => ⟨S8, .f32⟩
  | 41 => ⟨S_, .f32⟩
  | 42 => ⟨S8x16384, .f32⟩
  | 43 => ⟨S8x16384, .f32⟩
  | 44 => ⟨S_, .f32⟩
  | 45 => ⟨S8x16384, .f32⟩
  | 46 => ⟨S8x16384, .f32⟩
  | 47 => ⟨S8x16384, .f32⟩
  | 48 => ⟨S8x16384, .f32⟩
  | 49 => ⟨S_, .f32⟩
  | 50 => ⟨S8, .f32⟩
  | 51 => ⟨S_, .f32⟩
  | 52 => ⟨S8, .f32⟩
  | 53 => ⟨S8, .i1⟩
  | 54 => ⟨S_, .f32⟩
  | 55 => ⟨S8, .f32⟩
  | 56 => ⟨S8, .f32⟩
  | 57 => ⟨S8, .f32⟩
  | 58 => ⟨S_, .f32⟩
  | 59 => ⟨S8, .f32⟩
  | 60 => ⟨S8, .i1⟩
  | 61 => ⟨S_, .f32⟩
  | 62 => ⟨S8, .f32⟩
  | 63 => ⟨S8, .f32⟩
  | 64 => ⟨S_, .f32⟩
  | 65 => ⟨S8, .f32⟩
  | 66 => ⟨S8x1x16384, .f32⟩
  | 67 => ⟨S8x8x16384, .f32⟩
  | 68 => ⟨S8x8x16384, .f32⟩
  | 69 => ⟨S_, .f32⟩
  | 70 => ⟨S8x8, .f32⟩
  | 71 => ⟨S_, .f32⟩
  | 72 => ⟨S8x8, .f32⟩
  | 73 => ⟨S8x8, .f32⟩
  | 74 => ⟨S_, .f32⟩
  | 75 => ⟨S8, .f32⟩
  | 76 => ⟨S_, .f32⟩
  | 77 => ⟨S8, .f32⟩
  | 78 => ⟨S8, .f32⟩
  | 79 => ⟨S8x16384, .f32⟩
  | 80 => ⟨S_, .f32⟩
  | 81 => ⟨S8, .f32⟩
  | 82 => ⟨S_, .f32⟩
  | 83 => ⟨S8, .f32⟩
  | 84 => ⟨S8, .f32⟩
  | 85 => ⟨S8, .f32⟩
  | 86 => ⟨S8, .f32⟩
  | 87 => ⟨S8x1x16384, .f32⟩
  | 88 => ⟨S8x8x16384, .f32⟩
  | 89 => ⟨S8x8x16384, .f32⟩
  | 90 => ⟨S_, .f32⟩
  | 91 => ⟨S8x8, .f32⟩
  | 92 => ⟨S8x8x1, .f32⟩
  | 93 => ⟨S8x8x16384, .i32⟩
  | 94 => ⟨S_, .f32⟩
  | 95 => ⟨S_, .i32⟩
  | 96 => ⟨S8x8, .f32⟩
  | 97 => ⟨S8x8, .i32⟩
  | 98 => ⟨S8, .i32⟩
  | 99 => ⟨S8x1, .i32⟩
  | 100 => ⟨S_, .i32⟩
  | 101 => ⟨S8x1, .i32⟩
  | 102 => ⟨S8x1, .i1⟩
  | 103 => ⟨S_, .i32⟩
  | 104 => ⟨S8x1, .i32⟩
  | 105 => ⟨S8x1, .i32⟩
  | 106 => ⟨S8x1, .i32⟩
  | 107 => ⟨S_, .i32⟩
  | 108 => ⟨S8x8, .i32⟩
  | 109 => ⟨S8x8, .i1⟩
  | 110 => ⟨S_, .i32⟩
  | 111 => ⟨S8x8, .i32⟩
  | 112 => ⟨S8x8, .i32⟩
  | 113 => ⟨S8x8, .i32⟩
  | 114 => ⟨S8x8, .i32⟩
  | 115 => ⟨S8x8x1, .i32⟩
  | 116 => ⟨S8x8x1, .i32⟩
  | 117 => ⟨S8x8x2, .i32⟩
  | 118 => ⟨S8x8x2, .f32⟩
  | 119 => ⟨S8x1x16384x2, .f32⟩
  | 120 => ⟨S8x8x1x2, .f32⟩
  | 121 => ⟨S8x8x16384x2, .f32⟩
  | 122 => ⟨S8x8x16384x2, .f32⟩
  | 123 => ⟨S8x8x16384x2, .f32⟩
  | 124 => ⟨S8x8x16384x2, .f32⟩
  | 125 => ⟨S_, .f32⟩
  | 126 => ⟨S8x8x16384, .f32⟩
  | 127 => ⟨S8x8x16384, .f32⟩
  | _ => ⟨S8x128x128x2, .f32⟩

abbrev hbmTy0_1 (i : Nat) : BufTy := match i % 128 with
  | 0 => ⟨S8x8x16384, .f32⟩
  | 1 => ⟨S8x8x16384, .f32⟩
  | 2 => ⟨S8x8x16384, .f32⟩
  | 3 => ⟨S_, .f32⟩
  | 4 => ⟨S8x8x16384, .f32⟩
  | 5 => ⟨S8x8x16384, .f32⟩
  | 6 => ⟨S_, .f32⟩
  | 7 => ⟨S8x8x16384, .f32⟩
  | 8 => ⟨S8x8x16384, .f32⟩
  | 9 => ⟨S8x8x16384, .f32⟩
  | 10 => ⟨S8x8x16384, .f32⟩
  | 11 => ⟨S8x8x16384, .f32⟩
  | 12 => ⟨S_, .f32⟩
  | 13 => ⟨S8x8x16384, .f32⟩
  | 14 => ⟨S8x8x16384, .f32⟩
  | 15 => ⟨S8x8x16384, .f32⟩
  | 16 => ⟨S8x8x16384, .f32⟩
  | 17 => ⟨S_, .f32⟩
  | 18 => ⟨S8x16384, .f32⟩
  | 19 => ⟨S8x16384, .f32⟩
  | 20 => ⟨S_, .f32⟩
  | 21 => ⟨S8, .f32⟩
  | 22 => ⟨S_, .f32⟩
  | 23 => ⟨S8, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S_, .f32⟩
  | 31 => ⟨S_, .f32⟩
  | 32 => ⟨S_, .f32⟩
  | 33 => ⟨S_, .f32⟩
  | _ => ⟨S8x128x128x2, .f32⟩

abbrev hbmTy (i : Nat) : BufTy := match i / 128 with
  | 0 => hbmTy0_0 i
  | 1 => hbmTy0_1 i
  | _ => ⟨S8x128x128x2, .f32⟩

abbrev bufTy : (tb : Table) → Fin (tcTables nBuf tb) → BufTy
  | .hbm, ⟨i, _⟩ => hbmTy i
  | _, _ => ⟨S8x128x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_cst_15 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_16 : Ref sig .tc := ⟨.hbm, 69, rfl⟩
abbrev main_v47 : Ref sig .tc := ⟨.hbm, 70, rfl⟩
abbrev main_cst_17 : Ref sig .tc := ⟨.hbm, 71, rfl⟩
abbrev main_v48 : Ref sig .tc := ⟨.hbm, 72, rfl⟩
abbrev main_v49 : Ref sig .tc := ⟨.hbm, 73, rfl⟩
abbrev main_cst_18 : Ref sig .tc := ⟨.hbm, 74, rfl⟩
abbrev main_v50 : Ref sig .tc := ⟨.hbm, 75, rfl⟩
abbrev main_cst_19 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_20 : Ref sig .tc := ⟨.hbm, 80, rfl⟩
abbrev main_v54 : Ref sig .tc := ⟨.hbm, 81, rfl⟩
abbrev main_cst_21 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_22 : Ref sig .tc := ⟨.hbm, 90, rfl⟩
abbrev main_v62 : Ref sig .tc := ⟨.hbm, 91, rfl⟩
abbrev main_v63 : Ref sig .tc := ⟨.hbm, 92, rfl⟩
abbrev main_call2_v0 : Ref sig .tc := ⟨.hbm, 93, rfl⟩
abbrev main_call2_cst : Ref sig .tc := ⟨.hbm, 94, rfl⟩
abbrev main_call2_c : Ref sig .tc := ⟨.hbm, 95, rfl⟩
abbrev main_call2_v1_0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c : Ref sig .tc := ⟨.hbm, 100, rfl⟩
abbrev main_v67 : Ref sig .tc := ⟨.hbm, 101, rfl⟩
abbrev main_v68 : Ref sig .tc := ⟨.hbm, 102, rfl⟩
abbrev main_c_23 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_24 : Ref sig .tc := ⟨.hbm, 107, rfl⟩
abbrev main_v72 : Ref sig .tc := ⟨.hbm, 108, rfl⟩
abbrev main_v73 : Ref sig .tc := ⟨.hbm, 109, rfl⟩
abbrev main_c_25 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_v0 : Ref sig .tc := ⟨.hbm, 124, rfl⟩
abbrev main_call3_cst : Ref sig .tc := ⟨.hbm, 125, rfl⟩
abbrev main_call3_v1 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_v92 : Ref sig .tc := ⟨.hbm, 133, rfl⟩
abbrev main_cst_27 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_28 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_29 : Ref sig .tc := ⟨.hbm, 145, rfl⟩
abbrev main_v102 : Ref sig .tc := ⟨.hbm, 146, rfl⟩
abbrev main_v103 : Ref sig .tc := ⟨.hbm, 147, rfl⟩
abbrev main_cst_30 : Ref sig .tc := ⟨.hbm, 148, rfl⟩
abbrev main_v104 : Ref sig .tc := ⟨.hbm, 149, rfl⟩
abbrev main_cst_31 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_32 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_33 : Ref sig .tc := ⟨.hbm, 158, rfl⟩
abbrev main_v111 : Ref sig .tc := ⟨.hbm, 159, rfl⟩
abbrev main_cst_34 : Ref sig .tc := ⟨.hbm, 160, rfl⟩
abbrev main_v112 : Ref sig .tc := ⟨.hbm, 161, rfl⟩

abbrev nD : Nat := 1
abbrev τ : Topo := Topo.v7x

variable {F : FTy → Type} [FloatOps F]
-- ==== Proof.Pixels.lean ====
/- The pixels of a 128 × 128 image, numbered 0 … 16383 row by row, and sums and extrema over them. -/
module

public import Idealize.ShloMosaic.Lib.Pointwise
public import Mathlib.Data.EReal.Operations

@[expose] public section

noncomputable section

namespace Cert.Pixels

open Idealize.ShloMosaic
open scoped BigOperators

/-- The row of pixel `n`. -/
def row (n : Fin 16384) : Fin 128 := ⟨n.val / 128, by omega⟩
/-- The column of pixel `n`. -/
def col (n : Fin 16384) : Fin 128 := ⟨n.val % 128, by omega⟩
/-- The number of the pixel in row `r` and column `c`. -/
def num (r c : Fin 128) : Fin 16384 := ⟨r.val * 128 + c.val, by omega⟩

theorem row_num (r c : Fin 128) : row (num r c) = r := Fin.ext (by simp only [row, num]; omega)
theorem col_num (r c : Fin 128) : col (num r c) = c := Fin.ext (by simp only [col, num]; omega)
theorem num_row_col (n : Fin 16384) : num (row n) (col n) = n := Fin.ext (by simp only [row, col, num]; omega)

/-- A pixel is its row and its column. -/
def place : Fin 16384 ≃ Fin 128 × Fin 128 where
  toFun n := (row n, col n)
  invFun p := num p.1 p.2
  left_inv n := num_row_col n
  right_inv p := Prod.ext (row_num p.1 p.2) (col_num p.1 p.2)

/-- A sum over rows and columns is a sum over the pixels. -/
theorem sum_rows (f : Fin 128 → Fin 128 → EReal) : ∑ r, ∑ c, f r c = ∑ n, f (row n) (col n) := by
  rw [← Fintype.sum_prod_type' f]
  exact (Fintype.sum_equiv place (fun n => f (row n) (col n)) (fun p => f p.1 p.2) fun _ => rfl).symm

/-- A fold of `max` from the bottom is the supremum. -/
theorem fold_max {ι : Type} (s : Finset ι) (f : ι → EReal) : s.fold max ⊥ f = s.sup f := rfl
/-- A fold of `min` from the top is the infimum. -/
theorem fold_min {ι : Type} (s : Finset ι) (f : ι → EReal) : s.fold min ⊤ f = s.inf f := rfl

/-- The largest value over rows and columns is the largest over the pixels. -/
theorem sup_places (f : Fin 128 × Fin 128 → EReal) : Finset.univ.sup f = Finset.univ.sup fun n => f (row n, col n) := by
  rw [← Finset.map_univ_equiv place, Finset.sup_map]; rfl
/-- The least value over rows and columns is the least over the pixels. -/
theorem inf_places (f : Fin 128 × Fin 128 → EReal) : Finset.univ.inf f = Finset.univ.inf fun n => f (row n, col n) := by
  rw [← Finset.map_univ_equiv place, Finset.inf_map]; rfl

/-- The words of the two infinities. -/
theorem pos_inf : Ideal.ofBits .f32 0x7F800000#32 = ⊤ := by simp [Ideal.ofBits, Ideal.ieee]
theorem neg_inf : Ideal.ofBits .f32 0xFF800000#32 = ⊥ := by simp [Ideal.ofBits, Ideal.ieee]

end Cert.Pixels
-- ==== Proof.Spec.lean ====
/- The loss of ONE image as plain mathematics over the extended reals, in the two forms the two programs use,
   and the proof that the two forms agree when every entry of the object mask lies between zero and one.

   The pixels of an image are numbered 0 … 16383 in row-major order. Nothing here mentions a program: the other
   modules show that the kernel computes `Img.lossK` of each image, and the reference `Img.lossR`. -/
module

public import Idealize.ShloMosaic.Lib.IdealHost

@[expose] public section

noncomputable section

namespace Cert.Cond

open Idealize.ShloMosaic
open scoped BigOperators

/-- The constant 2. -/
def two : EReal := Ideal.ofBits .f32 0x40000000#32
/-- The constant written 0.1: the least charge, and the weight of the noise term. -/
def tenth : EReal := Ideal.ofBits .f32 0x3DCCCCCD#32
/-- The number of objects, which is also the number of images. -/
def eight : EReal := Ideal.ofBits .f32 0x41000000#32
/-- One eighth. -/
def eighth : EReal := Ideal.ofBits .f32 0x3E000000#32
/-- The number of pixels, 16384. -/
def count : EReal := Ideal.ofBits .f32 0x46800000#32
/-- The reciprocal of the number of pixels. -/
def perCount : EReal := Ideal.ofBits .f32 0x38800000#32

theorem eight_eq : eight = ((8 : ℝ) : EReal) := by
  simp [eight, Ideal.ofBits, Ideal.ieee, -EReal.coe_mul]; norm_num

theorem eighth_eq : eighth = ((1 / 8 : ℝ) : EReal) := by
  simp [eighth, Ideal.ofBits, Ideal.ieee, -EReal.coe_mul]; norm_num

theorem count_eq : count = ((16384 : ℝ) : EReal) := by
  simp [count, Ideal.ofBits, Ideal.ieee, -EReal.coe_mul]; norm_num

theorem perCount_eq : perCount = ((1 / 16384 : ℝ) : EReal) := by
  simp [perCount, Ideal.ofBits, Ideal.ieee, -EReal.coe_mul]; norm_num

/-- Dividing by eight is multiplying by one eighth. -/
theorem div_eight (x : EReal) : Ideal.div x eight = x * eighth := by
  have h0 : ((8 : ℝ) : EReal) ≠ 0 := by exact_mod_cast (by norm_num : (8 : ℝ) ≠ 0)
  rw [Ideal.div, eight_eq, eighth_eq, if_neg h0, ← EReal.coe_inv, one_div]

/-- Dividing by the number of pixels is multiplying by its reciprocal. -/
theorem div_count (x : EReal) : Ideal.div x count = x * perCount := by
  have h0 : ((16384 : ℝ) : EReal) ≠ 0 := by exact_mod_cast (by norm_num : (16384 : ℝ) ≠ 0)
  rw [Ideal.div, count_eq, perCount_eq, if_neg h0, ← EReal.coe_inv, one_div]

/-- One eighth distributes over any sum of two extended reals: it is finite and not negative. -/
theorem add_mul_eighth (x y : EReal) : (x + y) * eighth = x * eighth + y * eighth := by
  rw [eighth_eq]
  exact EReal.right_distrib_of_nonneg_of_ne_top (by exact_mod_cast (by norm_num : (0 : ℝ) ≤ 1 / 8)) (EReal.coe_ne_top _) x y

/-! ## The first place where a function is largest -/

section FirstMax

variable {ι : Type} [Fintype ι] [LinearOrder ι] [Nonempty ι] (f : ι → EReal)

/-- Some place holds the largest value. -/
theorem exists_max : (Finset.univ.filter fun n => f n = Finset.univ.sup f).Nonempty := by
  obtain ⟨n, -, hn⟩ := Finset.exists_mem_eq_sup Finset.univ Finset.univ_nonempty f
  exact ⟨n, Finset.mem_filter.mpr ⟨Finset.mem_univ _, hn.symm⟩⟩

/-- The first place that holds the largest value. -/
def firstMax : ι := (Finset.univ.filter fun n => f n = Finset.univ.sup f).min' (exists_max f)

theorem apply_firstMax : f (firstMax f) = Finset.univ.sup f :=
  (Finset.mem_filter.mp (Finset.min'_mem _ (exists_max f))).2

theorem firstMax_le (n : ι) (h : f n = Finset.univ.sup f) : firstMax f ≤ n :=
  Finset.min'_le (Finset.univ.filter fun n => f n = Finset.univ.sup f) n (Finset.mem_filter.mpr ⟨Finset.mem_univ n, h⟩)

theorem firstMax_eq (a : ι) (h : f a = Finset.univ.sup f) (hle : ∀ n, f n = Finset.univ.sup f → a ≤ n) :
    firstMax f = a :=
  le_antisymm (firstMax_le f a h) (hle _ (apply_firstMax f))

end FirstMax

/-- What one image supplies: the two coordinates of every pixel in the clustering space, the confidence `beta`, the
    squared reconstruction error, and the mask of each of the eight objects. -/
structure Img where
  x0 : Fin 16384 → EReal
  x1 : Fin 16384 → EReal
  beta : Fin 16384 → EReal
  err : Fin 16384 → EReal
  mask : Fin 8 → Fin 16384 → EReal

/-- The charge of a pixel of confidence `b`. -/
def charge (b : EReal) : EReal :=
  Ideal.div (Ideal.log1p (Ideal.div (two * b) (1 - b))) two * Ideal.div (Ideal.log1p (Ideal.div (two * b) (1 - b))) two + tenth

namespace Img

variable (I : Img)

/-- The charge of pixel `n`. -/
def q (n : Fin 16384) : EReal := charge (I.beta n)

/-- One where no object claims the pixel, zero elsewhere. -/
def noise (n : Fin 16384) : EReal := if ∑ k, I.mask k n < 1 then 1 else 0

/-- The weight of pixel `n` in the reconstruction term. -/
def weight (n : Fin 16384) : EReal := (1 - I.noise n) * (I.q n - tenth)

/-- The reconstruction term: the weighted mean of the error, zero if all weights vanish. -/
def recon : EReal :=
  if ∑ n, I.weight n = 0 then 0
  else Ideal.div (∑ n, I.weight n * I.err n) (if ∑ n, I.weight n = 0 then 1 else ∑ n, I.weight n)

/-- The noise term: the mean confidence of the unclaimed pixels, scaled. -/
def noiseTerm : EReal := Ideal.div (tenth * ∑ n, I.noise n * I.beta n) (∑ n, I.noise n)

/-- The largest confidence within object `k`. -/
def peak (k : Fin 8) : EReal := Finset.univ.sup fun n => I.beta n * I.mask k n

/-- The charge of pixel `n` within object `k`. -/
def held (k : Fin 8) (n : Fin 16384) : EReal := I.q n * I.mask k n

/-- The largest charge within object `k`. -/
def top (k : Fin 8) : EReal := Finset.univ.sup fun n => I.held k n

/-- The condensation point of object `k`: the first pixel that holds the largest charge. -/
def point (k : Fin 8) : Fin 16384 := firstMax (I.held k)

/-- The squared distance of pixel `n` to the condensation point of object `k`. -/
def dist (k : Fin 8) (n : Fin 16384) : EReal :=
  (I.x0 n - I.x0 (I.point k)) * (I.x0 n - I.x0 (I.point k)) + (I.x1 n - I.x1 (I.point k)) * (I.x1 n - I.x1 (I.point k))

/-- The repulsion of pixel `n` by object `k`, per unit of charge. -/
def rep (k : Fin 8) (n : Fin 16384) : EReal := max (1 - Ideal.sqrt (I.dist k n)) 0

/-- The potential of object `k` at pixel `n` as the kernel writes it: one interpolation by the mask. -/
def potK (k : Fin 8) (n : Fin 16384) : EReal := I.top k * (I.rep k n + I.mask k n * (I.dist k n - I.rep k n))

/-- The potential of object `k` at pixel `n` as the reference writes it: attraction inside, repulsion outside. -/
def potR (k : Fin 8) (n : Fin 16384) : EReal :=
  I.mask k n * (Ideal.sqrt (I.dist k n) * Ideal.sqrt (I.dist k n) * I.top k)
    + (1 - I.mask k n) * (max 0 (1 - Ideal.sqrt (I.dist k n)) * I.top k)

/-- The loss of the image as the kernel computes it. -/
def lossK : EReal :=
  I.recon + 1 * (1 - (∑ k, I.peak k) * eighth + I.noiseTerm + (∑ n, I.q n * ∑ k, I.potK k n) * perCount)

/-- The loss of the image as the reference computes it. -/
def lossR : EReal :=
  I.recon + 1 * (Ideal.div (∑ k, (1 - I.peak k)) eight + I.noiseTerm + Ideal.div (∑ n, I.q n * ∑ k, I.potR k n) count)

/-- Every entry of the mask lies between zero and one. -/
def Fractional : Prop := ∀ k n, 0 ≤ I.mask k n ∧ I.mask k n ≤ 1

end Img

/-! ## The potentials agree -/

theorem one_sub_one : (1 : EReal) - 1 = 0 := EReal.sub_self (by decide) (by decide)

/-- A square is not negative. -/
theorem mul_self_nonneg' (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The square root squared is the number, from zero on. -/
theorem sqrt_mul_sqrt {d : EReal} (h : 0 ≤ d) : Ideal.sqrt d * Ideal.sqrt d = d := by
  induction d with
  | bot => simp at h
  | top => rw [Ideal.sqrt_top, EReal.top_mul_top]
  | coe r =>
    have hr : 0 ≤ r := by exact_mod_cast h
    rw [Ideal.sqrt_coe, if_neg (not_lt.mpr hr), ← EReal.coe_mul, Real.mul_self_sqrt hr]

/-- The square root of a number that is not negative is not negative. -/
theorem sqrt_nonneg {d : EReal} (h : 0 ≤ d) : 0 ≤ Ideal.sqrt d := by
  induction d with
  | bot => simp at h
  | top => rw [Ideal.sqrt_top]; exact le_top
  | coe r =>
    have hr : 0 ≤ r := by exact_mod_cast h
    rw [Ideal.sqrt_coe, if_neg (not_lt.mpr hr)]
    exact_mod_cast Real.sqrt_nonneg r

/-- The clipped gap `max (1 - √d) 0` is a real number. -/
theorem exists_gap {d : EReal} (h : 0 ≤ d) : ∃ r : ℝ, max (1 - Ideal.sqrt d) 0 = (r : EReal) := by
  have hs := sqrt_nonneg h
  have h1 : max (1 - Ideal.sqrt d) 0 ≤ 1 := by
    refine max_le ?_ zero_le_one
    calc 1 - Ideal.sqrt d ≤ 1 - 0 := EReal.sub_le_sub le_rfl hs
      _ = 1 := sub_zero _
  have h0 : 0 ≤ max (1 - Ideal.sqrt d) 0 := le_max_right _ _
  exact ⟨_, (EReal.coe_toReal (ne_top_of_le_ne_top (by decide) h1) (ne_bot_of_le_ne_bot (by decide) h0)).symm⟩

/-- The blend of `g` and `d` with share `s`, in two forms; `d` may be infinite. -/
theorem blend_eq (s g : ℝ) {d : EReal} (hs : 0 ≤ s) (hd : 0 ≤ d) :
    (g : EReal) + s * (d - g) = s * d + (1 - s) * g := by
  induction d with
  | bot => simp at hd
  | top =>
    rw [EReal.top_sub_coe]
    rcases hs.eq_or_lt with h | h
    · rw [← h, EReal.coe_zero, zero_mul, sub_zero, one_mul, add_zero, zero_add]
    · rw [EReal.coe_mul_top_of_pos h, EReal.coe_add_top]
      exact (EReal.top_add_coe ((1 - s) * g)).symm
  | coe x =>
    rw [← EReal.coe_one, ← EReal.coe_sub, ← EReal.coe_sub, ← EReal.coe_mul, ← EReal.coe_mul, ← EReal.coe_mul,
      ← EReal.coe_add, ← EReal.coe_add]
    congr 1
    ring

namespace Img

variable (I : Img)

theorem dist_nonneg (k : Fin 8) (n : Fin 16384) : 0 ≤ I.dist k n :=
  add_nonneg (mul_self_nonneg' _) (mul_self_nonneg' _)

theorem potK_eq_potR (hI : I.Fractional) (k : Fin 8) (n : Fin 16384) : I.potK k n = I.potR k n := by
  obtain ⟨h0, h1⟩ := hI k n
  unfold potK potR
  rw [sqrt_mul_sqrt (I.dist_nonneg k n), max_comm (0 : EReal), ← rep]
  have hg : 0 ≤ I.rep k n := le_max_right _ _
  have hc : 0 ≤ 1 - I.mask k n :=
    (EReal.sub_nonneg (.inl (by decide)) (.inl (by decide))).mpr h1
  have e : I.rep k n + I.mask k n * (I.dist k n - I.rep k n) = I.mask k n * I.dist k n + (1 - I.mask k n) * I.rep k n := by
    obtain ⟨g, hr⟩ := exists_gap (I.dist_nonneg k n)
    obtain ⟨s, hm⟩ : ∃ s : ℝ, I.mask k n = s :=
      ⟨_, (EReal.coe_toReal (ne_top_of_le_ne_top (by decide) h1) (ne_bot_of_le_ne_bot (by decide) h0)).symm⟩
    rw [hm] at h0 ⊢
    rw [rep, hr]
    exact blend_eq s g (by exact_mod_cast h0) (I.dist_nonneg k n)
  rw [e, EReal.left_distrib_of_nonneg (mul_nonneg h0 (I.dist_nonneg k n)) (mul_nonneg hc hg), mul_comm (I.top k),
    mul_comm (I.top k), mul_assoc, mul_assoc]

/-! ## The two means over the objects agree -/

end Img

/-- The sum of the differences `1 - f k` is the count less the sum of `f`, if `f` does not reach both infinities. -/
theorem sum_one_sub {ι : Type} (s : Finset ι) (f : ι → EReal) (h : (∀ k, f k ≠ ⊤) ∨ ∀ k, f k ≠ ⊥) :
    ∑ k ∈ s, (1 - f k) = ((s.card : ℝ) : EReal) - ∑ k ∈ s, f k
      ∧ ((∀ k, f k ≠ ⊤) → ∑ k ∈ s, f k ≠ ⊤) ∧ ((∀ k, f k ≠ ⊥) → ∑ k ∈ s, f k ≠ ⊥) := by
  classical
  induction s using Finset.induction_on with
  | empty => simp
  | insert a s ha ih =>
    obtain ⟨e, et, eb⟩ := ih
    rw [Finset.sum_insert ha, Finset.sum_insert ha, Finset.card_insert_of_notMem ha, e]
    refine ⟨?_, fun h => EReal.add_ne_top (h a) (et h), fun h => ?_⟩
    · have hn : -(f a + ∑ k ∈ s, f k) = -f a - ∑ k ∈ s, f k := by
        rcases h with h | h
        · exact EReal.neg_add (.inr (et h)) (.inl (h a))
        · exact EReal.neg_add (.inl (h a)) (.inr (eb h))
      rw [sub_eq_add_neg _ (f a + _), hn]
      push_cast
      simp only [sub_eq_add_neg]
      rw [add_comm (s.card : EReal) 1]
      exact add_add_add_comm _ _ _ _
    · rw [Ne, EReal.add_eq_bot_iff, not_or]; exact ⟨h a, eb h⟩

namespace Img

variable (I : Img)

/-- Under a mask between zero and one the peaks of an image do not reach both infinities: a peak of `⊥` needs confidences
    that are nowhere positive; every other peak is then at most zero. -/
theorem peaks_one_sided (hI : I.Fractional) : (∀ k, I.peak k ≠ ⊤) ∨ ∀ k, I.peak k ≠ ⊥ := by
  by_cases h : ∃ k, I.peak k = ⊥
  · left
    obtain ⟨k, hk⟩ := h
    have hb : ∀ n, I.beta n ≤ 0 := fun n => by
      have h1 : I.beta n * I.mask k n = ⊥ := Finset.sup_eq_bot_iff _ _ |>.mp hk n (Finset.mem_univ n)
      by_contra hn
      have := mul_nonneg (not_le.mp hn).le (hI k n).1
      rw [h1] at this
      exact absurd this (by decide)
    intro j hj
    have hle : I.peak j ≤ 0 := Finset.sup_le fun n _ => mul_nonpos_of_nonpos_of_nonneg (hb n) (hI j n).1
    rw [hj] at hle
    exact absurd hle (by decide)
  · right
    exact fun k hk => h ⟨k, hk⟩

theorem means_eq (hI : I.Fractional) : 1 - (∑ k, I.peak k) * eighth = Ideal.div (∑ k, (1 - I.peak k)) eight := by
  rw [div_eight, (sum_one_sub Finset.univ I.peak (I.peaks_one_sided hI)).1, sub_eq_add_neg, sub_eq_add_neg, add_mul_eighth,
    EReal.neg_mul]
  congr 1
  rw [eighth_eq, ← EReal.coe_mul]
  simp

/-- THE EQUATION: on an image with a mask between zero and one the kernel's loss is the reference's. -/
theorem lossK_eq_lossR (hI : I.Fractional) : I.lossK = I.lossR := by
  unfold lossK lossR
  rw [I.means_eq hI, div_count]
  have h : ∀ n, ∑ k, I.potK k n = ∑ k, I.potR k n := fun n => Finset.sum_congr rfl fun k _ => I.potK_eq_potR hI k n
  simp only [h]

end Img

end Cert.Cond

end
-- ==== Proof.KernelLoss.lean ====
/- What the kernel computes of ONE image: its loss in the kernel's form, `Img.lossK`.

   A grid point treats two images by the same steps. `imageLoss` writes the steps once; the last sections show that
   the steps of either image are it, and that over the extended reals it is `Img.lossK`. -/
module

public import proofs.«01_k».proof.Proof.Gen.KernelIdeal.Skeleton
public import proofs.«01_k».proof.Proof.Pixels
public import proofs.«01_k».proof.Proof.Spec

@[expose] public section

noncomputable section

namespace Cert.KernelIdeal.Gen

open Idealize.ShloMosaic Cert.Pixels Cert.Cond
open scoped BigOperators

/-! ## The steps, once -/

section Steps

variable {F : FTy → Type} [FloatOps F]

/-- The loss from its parts: charges, reconstruction, noise term, peaks and the summed potentials. -/
def combine (q : FVec F S128x128 .f32) (rc nt : F .f32) (pk : FVec F S8 .f32) (pot : FVec F S128x128 .f32) : F .f32 :=
  let total : F .f32 := extractAt ![0, 0, 0] (shapeCast S1x1x1 (multiReduction .add [1, 2] S1
    (shapeCast S1x128x128 (mulf q pot) shapeCasts_S128x128_S1x128x128) 0x00000000#32 reduces_S1x128x128_S1 (.inl rfl) rfl)
    shapeCasts_S1_S1x1x1) inpos_S1x1x1_p0_0_0
  let peaks : F .f32 := extractAt ![0, 0] (shapeCast S1x1 (multiReduction .add [1] S1
    (shapeCast S1x8 pk shapeCasts_S8_S1x8) 0x00000000#32 reduces_S1x8_S1 (.inl rfl) rfl) shapeCasts_S1_S1x1) inpos_S1x1_p0_0
  Scalar.addf rc (Scalar.mulf (Scalar.ofBits .f32 0x3F800000#32)
    (Scalar.addf (Scalar.addf (Scalar.subf (Scalar.ofBits .f32 0x3F800000#32)
      (Scalar.mulf peaks (Scalar.ofBits .f32 0x3E000000#32))) nt)
      (Scalar.mulf total (Scalar.ofBits .f32 0x38800000#32))))

/-- The summed potentials of an image, from its coordinates, masks and charges. -/
def potentials (x0 x1 : FVec F S128x128 .f32) (m : FVec F S8x128x128 .f32) (q : FVec F S128x128 .f32) :
    FVec F S128x128 .f32 :=
  k0_pay17 k0_pay1 x0 x1 m (k0_pay14 m q) (k0_pay15 m q) (k0_pay16 k0_pay1)

/-- The loss of an image from its six blocks. -/
def imageLoss (x0 x1 b : Vec F S1x128x128 .f32) (m : Vec F S1x8x128x128 .f32) (i t : Vec F S1x1x128x128 .f32) : F .f32 :=
  combine (k0_pay6 b) (k0_pay10 (k0_pay6 b) (k0_pay7 i t) (k0_pay8 m)) (k0_pay11 (k0_pay4 b) (k0_pay8 m))
    (k0_pay12 (k0_pay4 b) (k0_pay5 m)) (potentials (k0_pay2 x0) (k0_pay3 x1) (k0_pay5 m) (k0_pay6 b))

/-- The first image's loss, added to a zero. -/
theorem first_image (x0 x1 b : Vec F S1x128x128 .f32) (m : Vec F S1x8x128x128 .f32) (i t : Vec F S1x1x128x128 .f32) :
    k0_pay18 (k0_pay6 b) (k0_pay10 (k0_pay6 b) (k0_pay7 i t) (k0_pay8 m)) (k0_pay11 (k0_pay4 b) (k0_pay8 m))
      (k0_pay12 (k0_pay4 b) (k0_pay5 m))
      (k0_pay17 k0_pay1 (k0_pay2 x0) (k0_pay3 x1) (k0_pay5 m) (k0_pay14 (k0_pay5 m) (k0_pay6 b))
        (k0_pay15 (k0_pay5 m) (k0_pay6 b)) (k0_pay16 k0_pay1))
      = Scalar.addf (Scalar.ofBits .f32 0x00000000#32) (imageLoss x0 x1 b m i t) := rfl

/-- The second image's loss, added to `a`; an eighth of the sum goes on top of the accumulator. -/
theorem second_image (a : F .f32) (x0 x1 b : Vec F S1x128x128 .f32) (m : Vec F S1x8x128x128 .f32)
    (i t : Vec F S1x1x128x128 .f32) (acc : Vec F S1x1 .f32) :
    k0_pay39 a (k0_pay22 m) (k0_pay26 (k0_pay21 b) (k0_pay25 b))
      (k0_pay28 (k0_pay21 b) (k0_pay22 m) (k0_pay23 i) (k0_pay24 t) (k0_pay25 b))
      (k0_pay31 (k0_pay29 (k0_pay22 m)) (k0_pay30 (k0_pay21 b) (k0_pay22 m)) (Scalar.ofBits .f32 0x3DCCCCCD#32))
      (k0_pay32 (k0_pay21 b) (k0_pay22 m)) (k0_pay34 (k0_pay22 m) (k0_pay26 (k0_pay21 b) (k0_pay25 b)))
      (k0_pay35 k0_pay1 (k0_pay19 x0) (k0_pay20 x1) (k0_pay22 m) (k0_pay26 (k0_pay21 b) (k0_pay25 b)))
      (k0_pay36 k0_pay1 (k0_pay19 x0) (k0_pay20 x1) (k0_pay22 m) (k0_pay26 (k0_pay21 b) (k0_pay25 b)))
      k0_pay37 acc
      = addf (shapeCast S1x1 acc shapeCasts_S1x1_S1x1)
          (broadcast S1x1 (Scalar.mulf (Scalar.addf a (imageLoss x0 x1 b m i t)) (Scalar.ofBits .f32 0x3E000000#32))) := rfl

end Steps

/-! ## The steps over the extended reals, at a pixel -/

/-- A bit read as a number. -/
theorem bit_number (p : Prop) [Decidable p] :
    (FloatOps.sitofp .f32 (BitVec.setWidth 32 (BitVec.ofBool (decide p))) : Ideal .f32) = if p then (1 : EReal) else 0 := by
  by_cases h : p
  · rw [if_pos h, decide_eq_true h]
    show (((BitVec.setWidth 32 (BitVec.ofBool true)).toInt : ℝ) : EReal) = 1
    have e : (BitVec.setWidth 32 (BitVec.ofBool true)).toInt = 1 := by decide
    rw [e]; simp
  · rw [if_neg h, decide_eq_false h]
    show (((BitVec.setWidth 32 (BitVec.ofBool false)).toInt : ℝ) : EReal) = 0
    have e : (BitVec.setWidth 32 (BitVec.ofBool false)).toInt = 0 := by decide
    rw [e]; simp

/-- The kernel numbers the pixels row by row. -/
theorem numbers_apply (r c : Fin 128) : k0_pay1 (F := Ideal) (ix2 r c) = (((num r c).val : ℝ) : EReal) := by
  pointwise [k0_pay1]
  have h : IntOp.addi (IntOp.muli (BitVec.ofNat 32 r.val) 128#32) (BitVec.ofNat 32 c.val)
      = BitVec.ofNat 32 (num r c).val := by
    show BitVec.ofNat 32 r.val * BitVec.ofNat 32 128 + BitVec.ofNat 32 c.val = BitVec.ofNat 32 (r.val * 128 + c.val)
    rw [← BitVec.ofNat_mul, ← BitVec.ofNat_add]
  have hlt := (num r c).isLt
  have hint : (BitVec.ofNat 32 (num r c).val).toInt = (num r c).val := by
    rw [BitVec.toInt_eq_toNat_of_lt (by rw [BitVec.toNat_ofNat]; omega), BitVec.toNat_ofNat]; omega
  rw [h]
  show (((BitVec.ofNat 32 (num r c).val).toInt : ℝ) : EReal) = _
  rw [hint]; simp

/-- Pixel numbers are different extended reals. -/
theorem number_inj (p n : Fin 16384) : (((n.val : ℝ) : EReal) = ((p.val : ℝ) : EReal)) ↔ n = p := by
  rw [EReal.coe_eq_coe_iff, Nat.cast_inj, Fin.val_inj]

/-- One at pixel `p`, zero elsewhere. -/
def indicator (p : Fin 16384) (r c : Fin 128) : EReal := if num r c = p then 1 else 0

/-- Comparing pixel numbers gives the indicator. -/
theorem bit_indicator (p : Fin 16384) (r c : Fin 128)
    [Decidable ((((num r c).val : ℝ) : EReal) = ((p.val : ℝ) : EReal))] :
    (FloatOps.sitofp .f32 (BitVec.setWidth 32 (BitVec.ofBool (decide ((((num r c).val : ℝ) : EReal) = ((p.val : ℝ) : EReal)))))
      : Ideal .f32) = indicator p r c := by
  rw [bit_number, indicator]
  exact if_congr (number_inj p (num r c)) rfl rfl

/-- A sum against the indicator of one pixel is the value there. -/
theorem sum_indicator (x : FVec Ideal S128x128 .f32) (p : Fin 16384) :
    ∑ r, ∑ c, indicator p r c * x (ix2 r c) = x (ix2 (row p) (col p)) := by
  rw [sum_rows fun r c => indicator p r c * x (ix2 r c),
    Finset.sum_eq_single p (fun n _ hn => ?_) fun h => absurd (Finset.mem_univ p) h]
  · rw [indicator, if_pos (num_row_col p), one_mul]
  · rw [indicator, if_neg (by rw [num_row_col]; exact hn), zero_mul]

section Image

variable (x0 x1 b : Vec Ideal S1x128x128 .f32) (m : Vec Ideal S1x8x128x128 .f32) (i t : Vec Ideal S1x1x128x128 .f32)

/-- The image that six blocks hold. -/
def blockImg : Img where
  x0 n := x0 (ix3 0 (row n) (col n))
  x1 n := x1 (ix3 0 (row n) (col n))
  beta n := b (ix3 0 (row n) (col n))
  err n := (i (ix4 0 0 (row n) (col n)) - t (ix4 0 0 (row n) (col n))) * (i (ix4 0 0 (row n) (col n)) - t (ix4 0 0 (row n) (col n)))
  mask k n := m (ix4 0 k (row n) (col n))

theorem blockImg_x0 (n : Fin 16384) : (blockImg x0 x1 b m i t).x0 n = x0 (ix3 0 (row n) (col n)) := rfl
theorem blockImg_x1 (n : Fin 16384) : (blockImg x0 x1 b m i t).x1 n = x1 (ix3 0 (row n) (col n)) := rfl
theorem blockImg_mask (k : Fin 8) (n : Fin 16384) : (blockImg x0 x1 b m i t).mask k n = m (ix4 0 k (row n) (col n)) := rfl
theorem blockImg_q (n : Fin 16384) : (blockImg x0 x1 b m i t).q n = charge (b (ix3 0 (row n) (col n))) := rfl

theorem x0_apply (r c : Fin 128) : k0_pay2 (F := Ideal) x0 (ix2 r c) = x0 (ix3 0 r c) := by pointwise [k0_pay2]
theorem x1_apply (r c : Fin 128) : k0_pay3 (F := Ideal) x1 (ix2 r c) = x1 (ix3 0 r c) := by pointwise [k0_pay3]
theorem mask_apply (k : Fin 8) (r c : Fin 128) : k0_pay5 (F := Ideal) m (ix3 k r c) = m (ix4 0 k r c) := by
  pointwise [k0_pay5]

theorem charge_apply (r c : Fin 128) : k0_pay6 (F := Ideal) b (ix2 r c) = charge (b (ix3 0 r c)) := by
  pointwise [k0_pay6, k0_pay4]; rfl

theorem noise_apply (r c : Fin 128) :
    k0_pay9 (F := Ideal) (k0_pay8 m) (ix2 r c) = if ∑ k, m (ix4 0 k r c) < 1 then (1 : EReal) else 0 := by
  pointwise [k0_pay9, k0_pay8, k0_pay5]
  exact bit_number _

theorem recon_eq : k0_pay10 (F := Ideal) (k0_pay6 b) (k0_pay7 i t) (k0_pay8 m) = (blockImg x0 x1 b m i t).recon := by
  pointwise [k0_pay10, k0_pay7]
  simp only [charge_apply, noise_apply]
  rw [sum_rows fun r c => (1 - if ∑ k, m (ix4 0 k r c) < 1 then (1 : EReal) else 0) * (charge (b (ix3 0 r c)) - Ideal.ofBits .f32 0x3DCCCCCD#32),
    sum_rows fun r c => (1 - if ∑ k, m (ix4 0 k r c) < 1 then (1 : EReal) else 0) * (charge (b (ix3 0 r c)) - Ideal.ofBits .f32 0x3DCCCCCD#32)
      * ((i (ix4 0 0 r c) - t (ix4 0 0 r c)) * (i (ix4 0 0 r c) - t (ix4 0 0 r c)))]
  rfl

theorem noiseTerm_eq : k0_pay11 (F := Ideal) (k0_pay4 b) (k0_pay8 m) = (blockImg x0 x1 b m i t).noiseTerm := by
  pointwise [k0_pay11, k0_pay4]
  simp only [noise_apply]
  rw [sum_rows fun r c => (if ∑ k, m (ix4 0 k r c) < 1 then (1 : EReal) else 0) * b (ix3 0 r c),
    sum_rows fun r c => (if ∑ k, m (ix4 0 k r c) < 1 then (1 : EReal) else 0)]
  rfl

theorem peak_apply (k : Fin 8) :
    k0_pay12 (F := Ideal) (k0_pay4 b) (k0_pay5 m) (ix1 k) = (blockImg x0 x1 b m i t).peak k := by
  pointwise [k0_pay12, k0_pay4, k0_pay5]
  rw [neg_inf, fold_max, sup_places]
  rfl

theorem held_apply (k : Fin 8) (r c : Fin 128) :
    k0_pay13 (F := Ideal) (k0_pay5 m) (k0_pay6 b) (ix3 k r c) = charge (b (ix3 0 r c)) * m (ix4 0 k r c) := by
  pointwise [k0_pay13, k0_pay5]
  rw [charge_apply]

theorem top_apply (k : Fin 8) :
    k0_pay14 (F := Ideal) (k0_pay5 m) (k0_pay6 b) (ix3 k 0 0) = (blockImg x0 x1 b m i t).top k := by
  pointwise [k0_pay14]
  simp only [held_apply]
  rw [neg_inf, fold_max, sup_places]
  rfl

theorem hit_apply (k : Fin 8) (r c : Fin 128) :
    k0_pay15 (F := Ideal) (k0_pay5 m) (k0_pay6 b) (ix3 k r c)
      = BitVec.ofBool (decide (charge (b (ix3 0 r c)) * m (ix4 0 k r c) = (blockImg x0 x1 b m i t).top k)) := by
  pointwise [k0_pay15]
  rw [held_apply, top_apply x0 x1 b m i t]

/-- The least number of a pixel that holds the largest charge is the condensation point. -/
theorem least_eq (I : Img) (k : Fin 8) :
    (Finset.univ.inf fun n : Fin 16384 => if I.held k n = I.top k then ((n.val : ℝ) : EReal) else count)
      = (((I.point k).val : ℝ) : EReal) := by
  have hp : I.held k (I.point k) = I.top k := apply_firstMax (I.held k)
  refine le_antisymm ((Finset.inf_le (Finset.mem_univ (I.point k))).trans (by rw [if_pos hp])) (Finset.le_inf fun n _ => ?_)
  split_ifs with h
  · exact EReal.coe_le_coe_iff.mpr (Nat.cast_le.mpr (firstMax_le (I.held k) n h))
  · rw [count_eq]
    exact EReal.coe_le_coe_iff.mpr (by exact_mod_cast (I.point k).isLt.le)

theorem least_apply (k : Fin 8) :
    (Finset.fold min (Ideal.ofBits .f32 0x7F800000#32)
      (fun p : Fin 128 × Fin 128 => Scalar.select (k0_pay15 (F := Ideal) (k0_pay5 m) (k0_pay6 b) (ix3 k p.1 p.2))
        (((num p.1 p.2).val : ℝ) : EReal) (Ideal.ofBits .f32 0x46800000#32)) Finset.univ)
      = ((((blockImg x0 x1 b m i t).point k).val : ℝ) : EReal) := by
  rw [pos_inf, fold_min, inf_places, ← least_eq]
  refine Finset.inf_congr rfl fun n _ => ?_
  rw [hit_apply x0 x1 b m i t, num_row_col]
  by_cases h : charge (b (ix3 0 (row n) (col n))) * m (ix4 0 k (row n) (col n)) = (blockImg x0 x1 b m i t).top k
  · rw [decide_eq_true h]; exact (if_pos h).symm
  · rw [decide_eq_false h]; exact (if_neg h).symm

/-- The potentials at a pixel, summed over the objects. -/
theorem potentials_apply (n : Fin 16384) :
    potentials (F := Ideal) (k0_pay2 x0) (k0_pay3 x1) (k0_pay5 m) (k0_pay6 b) (ix2 (row n) (col n))
      = ∑ k, (blockImg x0 x1 b m i t).potK k n := by
  pointwise [potentials, k0_pay17, k0_pay16]
  simp only [numbers_apply]
  simp only [least_apply x0 x1 b m i t, bit_indicator, top_apply x0 x1 b m i t]
  refine Finset.sum_congr rfl fun k _ => ?_
  rw [sum_indicator (k0_pay2 (F := Ideal) x0) ((blockImg x0 x1 b m i t).point k),
    sum_indicator (k0_pay3 (F := Ideal) x1) ((blockImg x0 x1 b m i t).point k), Img.potK, Img.rep, Img.dist]
  simp only [x0_apply, x1_apply, mask_apply, blockImg_x0, blockImg_x1, blockImg_mask]

/-- The loss from its parts, over the extended reals. -/
theorem combine_eq (q pot : FVec Ideal S128x128 .f32) (rc nt : EReal) (pk : FVec Ideal S8 .f32) :
    combine (F := Ideal) q rc nt pk pot
      = rc + (1 - (∑ k, pk (ix1 k)) * eighth + nt
        + (∑ n, q (ix2 (row n) (col n)) * pot (ix2 (row n) (col n))) * perCount) := by
  pointwise [combine]
  rw [sum_rows fun r c => q (ix2 r c) * pot (ix2 r c)]
  rfl

/-- The kernel computes the loss of the image in its own form. -/
theorem imageLoss_eq : imageLoss (F := Ideal) x0 x1 b m i t = (blockImg x0 x1 b m i t).lossK := by
  rw [imageLoss, combine_eq, recon_eq x0 x1 b m i t, noiseTerm_eq x0 x1 b m i t, Img.lossK, one_mul]
  simp only [peak_apply x0 x1 b m i t, potentials_apply x0 x1 b m i t, charge_apply, blockImg_q]

end Image

end Cert.KernelIdeal.Gen
-- ==== Proof.Images.lean ====
/- The images that the five arguments hold. Both programs are read against these. -/
module

public import proofs.«01_k».proof.Proof.Pixels
public import proofs.«01_k».proof.Proof.Spec

@[expose] public section

noncomputable section

namespace Cert.Cond

open Idealize.ShloMosaic Cert.Pixels

/-- Image `b` of the arguments: its cluster coordinates, charges' logits, masks and squared errors, pixel by pixel. -/
def argImg (X : Vec Ideal ⟨4, ![8, 128, 128, 2]⟩ .f32) (B : Vec Ideal ⟨3, ![8, 128, 128]⟩ .f32)
    (M : Vec Ideal ⟨4, ![8, 8, 128, 128]⟩ .f32) (I T : Vec Ideal ⟨4, ![8, 1, 128, 128]⟩ .f32) (b : Fin 8) : Img where
  x0 n := X (ix4 b (row n) (col n) 0)
  x1 n := X (ix4 b (row n) (col n) 1)
  beta n := B (ix3 b (row n) (col n))
  err n := (I (ix4 b 0 (row n) (col n)) - T (ix4 b 0 (row n) (col n)))
    * (I (ix4 b 0 (row n) (col n)) - T (ix4 b 0 (row n) (col n)))
  mask k n := M (ix4 b k (row n) (col n))

end Cert.Cond

end
-- ==== Proof.KernelRun.lean ====
/- What the kernel's run ends with: an eighth of each image's loss, summed over the eight images.

   The grid has four points of two images each. Every point adds its two images' losses, times an eighth, onto one
   number that stays in place from point to point and is written back after the last. -/
module

public import proofs.«01_k».proof.Proof.KernelLoss
public import proofs.«01_k».proof.Proof.Images
public import proofs.«01_k».proof.Proof.Gen.KernelIdeal.Frame
public import Idealize.ShloMosaic.Lib.Pipeline.Value
public import Idealize.ShloMosaic.Lib.Pipeline.ValueKit
public import Idealize.ShloMosaic.Lib.Claim
public import Idealize.ShloMosaic.Lib.Tactic

@[expose] public section

noncomputable section

namespace Cert.KernelIdeal.Gen

open Idealize.ShloMosaic Idealize.ShloMosaic.TcCoe Idealize.SL.Sem
open Idealize.ShloMosaic.Pipeline (Dat)
open Cert.Pixels Cert.Cond
open scoped BigOperators

/-! ## One grid point -/

section Point

variable {F : FTy → Type} [FloatOps F]

theorem no_offset : (![0, 0] : Fin 2 → Nat) = fun _ => 0 := funext fun a => by fin_cases a <;> rfl

/-- The loss of the first of the two images in the blocks. -/
def lossOfFirst (x0 x1 b : Vec F S2x128x128 .f32) (k : Vec F S2x8x128x128 .f32) (i t : Vec F S2x1x128x128 .f32) : F .f32 :=
  imageLoss (View.ld x0 (Rect.unit ![0, 0, 0] S1x128x128.size inb_S2x128x128_S1x128x128_0_0_0))
    (View.ld x1 (Rect.unit ![0, 0, 0] S1x128x128.size inb_S2x128x128_S1x128x128_0_0_0))
    (View.ld b (Rect.unit ![0, 0, 0] S1x128x128.size inb_S2x128x128_S1x128x128_0_0_0))
    (View.ld k (Rect.unit ![0, 0, 0, 0] S1x8x128x128.size inb_S2x8x128x128_S1x8x128x128_0_0_0_0))
    (View.ld i (Rect.unit ![0, 0, 0, 0] S1x1x128x128.size inb_S2x1x128x128_S1x1x128x128_0_0_0_0))
    (View.ld t (Rect.unit ![0, 0, 0, 0] S1x1x128x128.size inb_S2x1x128x128_S1x1x128x128_0_0_0_0))

/-- The loss of the second. -/
def lossOfSecond (x0 x1 b : Vec F S2x128x128 .f32) (k : Vec F S2x8x128x128 .f32) (i t : Vec F S2x1x128x128 .f32) : F .f32 :=
  imageLoss (View.ld x0 (Rect.unit ![1, 0, 0] S1x128x128.size inb_S2x128x128_S1x128x128_1_0_0))
    (View.ld x1 (Rect.unit ![1, 0, 0] S1x128x128.size inb_S2x128x128_S1x128x128_1_0_0))
    (View.ld b (Rect.unit ![1, 0, 0] S1x128x128.size inb_S2x128x128_S1x128x128_1_0_0))
    (View.ld k (Rect.unit ![1, 0, 0, 0] S1x8x128x128.size inb_S2x8x128x128_S1x8x128x128_1_0_0_0))
    (View.ld i (Rect.unit ![1, 0, 0, 0] S1x1x128x128.size inb_S2x1x128x128_S1x1x128x128_1_0_0_0))
    (View.ld t (Rect.unit ![1, 0, 0, 0] S1x1x128x128.size inb_S2x1x128x128_S1x1x128x128_1_0_0_0))

/-- What a point leaves on top of the running value `acc`. -/
def addPoint (acc : Vec F S1x1 .f32) (x0 x1 b : Vec F S2x128x128 .f32) (k : Vec F S2x8x128x128 .f32)
    (i t : Vec F S2x1x128x128 .f32) : Vec F S1x1 .f32 :=
  addf acc (broadcast S1x1 (Scalar.mulf (Scalar.addf (Scalar.addf (Scalar.ofBits .f32 0x00000000#32)
    (lossOfFirst x0 x1 b k i t)) (lossOfSecond x0 x1 b k i t)) (Scalar.ofBits .f32 0x3E000000#32)))

section Body

variable (c : Dev nD) (g : grid0.Coords) (a1 : Memref sig .tc .vmem S2x128x128 .f32) (h1 : a1.IsWhole)
  (a2 : Memref sig .tc .vmem S2x128x128 .f32) (h2 : a2.IsWhole) (a3 : Memref sig .tc .vmem S2x128x128 .f32) (h3 : a3.IsWhole)
  (a4 : Memref sig .tc .vmem S2x8x128x128 .f32) (h4 : a4.IsWhole) (a5 : Memref sig .tc .vmem S2x1x128x128 .f32)
  (h5 : a5.IsWhole) (a6 : Memref sig .tc .vmem S2x1x128x128 .f32) (h6 : a6.IsWhole) (a7 : Memref sig .tc .vmem S1x1 .f32)
  (h7 : a7.IsWhole)
  (x0 x1 b : Vec F S2x128x128 .f32) (k : Vec F S2x8x128x128 .f32) (i t : Vec F S2x1x128x128 .f32)

/-- A later point adds onto what it finds. -/
theorem later_point (hc : ¬cond0_0 g) (acc : Vec F S1x1 .f32) :
    out0_B_6 c g a1 h1 a2 h2 a3 h3 a4 h4 a5 h5 a6 h6 a7 h7 hc x0 x1 b k i t acc = addPoint acc x0 x1 b k i t := by
  unfold out0_B_6
  rw [View.read_writes_eq_canon _ _ _ (cover0_B_6 c g a1 h1 a2 h2 a3 h3 a4 h4 a5 h5 a6 h6 a7 h7 hc x0 x1 b k i t acc)]
  unfold kernelRun0_B
  dsimp only
  rw [View.canon_unit_zero no_offset]
  sl_unfold_words
  rw [first_image, second_image]
  simp only [View.readAt_eq_ld, h1.read_unread, h2.read_unread, h3.read_unread, h4.read_unread, h5.read_unread,
    h6.read_unread, h7.read_unread, View.ld_unit_zero (S := S1x1) no_offset, shapeCast_self]
  rfl

/-- The first point adds onto the zero it has just stored. -/
theorem first_point (hc : cond0_0 g) :
    out0_A_6 c g a1 h1 a2 h2 a3 h3 a4 h4 a5 h5 a6 h6 a7 h7 hc x0 x1 b k i t = addPoint k0_pay38 x0 x1 b k i t := by
  unfold out0_A_6
  rw [View.read_writes_eq_canon _ _ _ (cover0_A_6 c g a1 h1 a2 h2 a3 h3 a4 h4 a5 h5 a6 h6 a7 h7 hc x0 x1 b k i t)]
  unfold kernelRun0_A
  dsimp only
  sl_unfold_words
  rw [View.canon_cons_unit_zero (S := S1x1) no_offset, View.readCov_unit_zero (S := S1x1) _ no_offset, first_image,
    second_image]
  simp only [View.readAt_eq_ld, h1.read_unread, h2.read_unread, h3.read_unread, h4.read_unread, h5.read_unread,
    h6.read_unread, shapeCast_self]
  rfl

end Body

end Point

/-! ## The four points, and the write-back -/

section Points

variable {F : FTy → Type} [FloatOps F]
variable (m : (ℓ : Loc nD τ sig) → Buf (Elt F) ℓ) (ρ : Dev nD → PrngReg)

/-- What point `t` leaves on top of `acc`, with the blocks it is given. -/
def step (c : Dev nD) (t : Fin cfg0.N) (acc : Vec F S1x1 .f32) : Vec F S1x1 .f32 :=
  addPoint acc (iblk m c 0 t) (iblk m c 1 t) (iblk m c 2 t) (iblk m c 3 t) (iblk m c 4 t) (iblk m c 5 t)

theorem outs_first (c : Dev nD) (t : Fin cfg0.N) (h : t.val % 4 = 0) :
    outsAt0 m c t.val t.isLt = step m c t k0_pay38 :=
  (outsAt0_A m c t h).trans (first_point ..)

theorem outs_later (c : Dev nD) (t : Fin cfg0.N) (h : ¬t.val % 4 = 0) :
    outsAt0 m c t.val t.isLt
      = step m c t (outsAt0 m c (t.val - 1) (Nat.lt_of_le_of_lt (Nat.sub_le _ _) t.isLt)) :=
  (outsAt0_B m c t h).trans (later_point ..)

/-- The number after the last point. -/
def total (c : Dev nD) : Vec F S1x1 .f32 :=
  step m c t0_3 (step m c t0_2 (step m c t0_1 (step m c t0_0 k0_pay38)))

theorem outs_last (c : Dev nD) : outsAt0 m c t0_3.val t0_3.isLt = total m c := by
  rw [outs_later m c t0_3 (by decide)]
  show step m c t0_3 (outsAt0 m c t0_2.val t0_2.isLt) = _
  rw [outs_later m c t0_2 (by decide)]
  show step m c t0_3 (step m c t0_2 (outsAt0 m c t0_1.val t0_1.isLt)) = _
  rw [outs_later m c t0_1 (by decide)]
  show step m c t0_3 (step m c t0_2 (step m c t0_1 (outsAt0 m c t0_0.val t0_0.isLt))) = _
  rw [outs_first m c t0_0 (by decide)]
  rfl

/-- Only the last point writes back, and it writes the whole result. -/
theorem written_back (c : Dev nD) (t : Fin cfg0.N) (hf : (cfg0.win 6).flush t = true) :
    (dats m 0 c).flushed 6 t = ((cfg0.win 6).blk t).view.read (Elt F) (total m c) := by
  have ht : t = t0_3 := by
    have h := (flush0_6 t).mp hf
    rcases fin_N0 t with rfl | rfl | rfl | rfl
    · exact absurd h (by decide)
    · exact absurd h (by decide)
    · exact absurd h (by decide)
    · rfl
  subst ht
  show (cfg0.win 6).cut (grid0.coords t0_3) ((dats m 0 c).after 6 t0_3) = _
  rw [after0_6, outs_last]
  have hz : (fun a => win0_6.index t0_3 a * main_v4.ty.shape.size a) = fun _ => 0 :=
    funext fun a => by fin_cases a <;> decide
  exact (Memref.read_access_unit_zero (Elt F) main_v4 hz (fun a => by rw [congrFun hz a]; simp) (total m c)).symm

theorem final_array (c : Dev nD) : (dats m 0 c).arrAt 6 cfg0.N = total m c :=
  (dats m 0 c).arrAt_eq_of_cover 6 (total m c) (written_back m c) fun i => ⟨t0_3, (flush0_6 t0_3).mpr (by decide), by
    show i ∈ ((View.whole main_v4).slice (win0_6.rect t0_3)).set
    rw [View.set_slice_whole, Rect.mem_set_unit]
    intro a
    have hlow : ∀ a, win0_6.index t0_3 a * win0_6.size a = 0 := by decide +kernel
    have hsize : ∀ a, win0_6.xsize (grid0.coords t0_3) a = 1 := by decide +kernel
    have hi : (i a : Nat) < 1 := lt_of_lt_of_eq (i a).isLt (by fin_cases a <;> rfl)
    have h1 := hlow a
    have h2 := hsize a
    constructor
    · exact le_of_eq_of_le h1 (Nat.zero_le _)
    · exact lt_of_lt_of_eq hi (by rw [← h2]; show _ = win0_6.index t0_3 a * win0_6.size a + _; rw [h1, Nat.zero_add])⟩

theorem run_total : θ_run defs (onTc (τ := τ) (main (F := F))) ⟨m, fun _ => 0, ρ⟩ (fun r => ∀ c : Dev nD,
    r.2.mem ((c.tc : Thread nD τ).loc main_v5) = shapeCast S_ (total m c) shapeCasts_S1x1_S_) := by
  run_from (run_main m ρ)
  unfold Pipeline.afterTail₀
  have h : Pipeline.withArrays (cfgs 0).spec c (V0 m c) (fun w => (dats m 0 c).arrAt w (cfgs 0).N) (Proc.devRef .tc main_v4)
      = total m c :=
    (Pipeline.withArrays_arr (cfgs 0).spec (by decide) c (V0 m c) _ 6).trans (final_array m c)
  rw [← h]
  show StableHlo.after hostOps1 _ _ = _
  after_results
  rfl

end Points

/-! ## The blocks are the arguments' images -/

section Blocks

variable {F : FTy → Type} [FloatOps F]
variable (m : (ℓ : Loc nD τ sig) → Buf (Elt F) ℓ) (c : Dev nD)

theorem point_lt (t : Fin cfg0.N) : t.val < 4 := lt_of_lt_of_eq t.isLt N_0

/-- The image that is number `j` of point `t`'s two. -/
def imageAt (t : Fin cfg0.N) (j : Fin 2) : Fin 8 :=
  ⟨2 * t.val + j.val, by have := point_lt t; have := j.isLt; omega⟩

/-- Point `t` is given block `t` of every array. -/
theorem block_index (t : Fin cfg0.N) : win0_0.index t = ![t.val, 0, 0] ∧ win0_1.index t = ![t.val, 0, 0]
    ∧ win0_2.index t = ![t.val, 0, 0] ∧ win0_3.index t = ![t.val, 0, 0, 0] ∧ win0_4.index t = ![t.val, 0, 0, 0]
    ∧ win0_5.index t = ![t.val, 0, 0, 0] := by
  rcases fin_N0 t with rfl | rfl | rfl | rfl <;> decide

/-- The array of first coordinates, cut out of the first argument. -/
theorem entry_x0 : V m c main_v1 = (shapeCast S8x128x128 (extractStridedSlice S8x128x128x1 ![0, 0, 0, 0]
    (m ((c : Thread nD τ).loc main_arg0) : Vec F S8x128x128x2 .f32) slices_S8x128x128x2_S8x128x128x1_0_0_0_0)
    shapeCasts_S8x128x128x1_S8x128x128 : Vec F S8x128x128 .f32) := by
  entry_read
  rfl

/-- The array of second coordinates. -/
theorem entry_x1 : V m c main_v3 = (shapeCast S8x128x128 (extractStridedSlice S8x128x128x1 ![0, 0, 0, 1]
    (m ((c : Thread nD τ).loc main_arg0) : Vec F S8x128x128x2 .f32) slices_S8x128x128x2_S8x128x128x1_0_0_0_1)
    shapeCasts_S8x128x128x1_S8x128x128 : Vec F S8x128x128 .f32) := by
  entry_read
  rfl

theorem entry_x0_apply (b : Fin 8) (r k : Fin 128) : (V m c main_v1 : Vec F S8x128x128 .f32) (ix3 b r k)
    = (m ((c : Thread nD τ).loc main_arg0) : Vec F S8x128x128x2 .f32) (ix4 b r k 0) := by
  rw [entry_x0]
  pointwise

theorem entry_x1_apply (b : Fin 8) (r k : Fin 128) : (V m c main_v3 : Vec F S8x128x128 .f32) (ix3 b r k)
    = (m ((c : Thread nD τ).loc main_arg0) : Vec F S8x128x128x2 .f32) (ix4 b r k 1) := by
  rw [entry_x1]
  pointwise

variable (t : Fin cfg0.N) (j : Fin 2) (r k : Fin 128)

theorem x0_block : (iblk m c 0 t : Vec F S2x128x128 .f32) (ix3 j r k)
    = (m ((c : Thread nD τ).loc main_arg0) : Vec F S8x128x128x2 .f32) (ix4 (imageAt t j) r k 0) := by
  have h := block_index t
  rw [← entry_x0_apply m]
  unfold iblk
  rw [View.read_apply]
  show V m c main_v1 _ = _
  blk_ext [h, imageAt]

theorem x1_block : (iblk m c 1 t : Vec F S2x128x128 .f32) (ix3 j r k)
    = (m ((c : Thread nD τ).loc main_arg0) : Vec F S8x128x128x2 .f32) (ix4 (imageAt t j) r k 1) := by
  have h := block_index t
  rw [← entry_x1_apply m]
  unfold iblk
  rw [View.read_apply]
  show V m c main_v3 _ = _
  blk_ext [h, imageAt]

theorem beta_block : (iblk m c 2 t : Vec F S2x128x128 .f32) (ix3 j r k)
    = (m ((c : Thread nD τ).loc main_arg1) : Vec F S8x128x128 .f32) (ix3 (imageAt t j) r k) := by
  have h := block_index t
  blk_ext [iblk, V, h, imageAt]

theorem mask_block (o : Fin 8) : (iblk m c 3 t : Vec F S2x8x128x128 .f32) (ix4 j o r k)
    = (m ((c : Thread nD τ).loc main_arg2) : Vec F S8x8x128x128 .f32) (ix4 (imageAt t j) o r k) := by
  have h := block_index t
  blk_ext [iblk, V, h, imageAt]

theorem input_block : (iblk m c 4 t : Vec F S2x1x128x128 .f32) (ix4 j 0 r k)
    = (m ((c : Thread nD τ).loc main_arg3) : Vec F S8x1x128x128 .f32) (ix4 (imageAt t j) 0 r k) := by
  have h := block_index t
  blk_ext [iblk, V, h, imageAt]

theorem target_block : (iblk m c 5 t : Vec F S2x1x128x128 .f32) (ix4 j 0 r k)
    = (m ((c : Thread nD τ).loc main_arg4) : Vec F S8x1x128x128 .f32) (ix4 (imageAt t j) 0 r k) := by
  have h := block_index t
  blk_ext [iblk, V, h, imageAt]

end Blocks

/-! ## The losses, over the extended reals -/

section Losses

variable (m : (ℓ : Loc nD τ sig) → Buf (Elt Ideal) ℓ) (c : Dev nD)

/-- Image `b` of the kernel's arguments. -/
def image (b : Fin 8) : Img :=
  argImg (m ((c : Thread nD τ).loc main_arg0)) (m ((c : Thread nD τ).loc main_arg1)) (m ((c : Thread nD τ).loc main_arg2))
    (m ((c : Thread nD τ).loc main_arg3)) (m ((c : Thread nD τ).loc main_arg4)) b

/-- Six blocks that read as image `b` of the arguments have its loss. -/
theorem loss_of_reads (b : Fin 8) (x0 x1 be : Vec Ideal S1x128x128 .f32) (k : Vec Ideal S1x8x128x128 .f32)
    (i t : Vec Ideal S1x1x128x128 .f32)
    (h0 : ∀ r c', x0 (ix3 0 r c') = (m ((c : Thread nD τ).loc main_arg0) : Vec Ideal S8x128x128x2 .f32) (ix4 b r c' 0))
    (h1 : ∀ r c', x1 (ix3 0 r c') = (m ((c : Thread nD τ).loc main_arg0) : Vec Ideal S8x128x128x2 .f32) (ix4 b r c' 1))
    (h2 : ∀ r c', be (ix3 0 r c') = (m ((c : Thread nD τ).loc main_arg1) : Vec Ideal S8x128x128 .f32) (ix3 b r c'))
    (h3 : ∀ o r c', k (ix4 0 o r c') = (m ((c : Thread nD τ).loc main_arg2) : Vec Ideal S8x8x128x128 .f32) (ix4 b o r c'))
    (h4 : ∀ r c', i (ix4 0 0 r c') = (m ((c : Thread nD τ).loc main_arg3) : Vec Ideal S8x1x128x128 .f32) (ix4 b 0 r c'))
    (h5 : ∀ r c', t (ix4 0 0 r c') = (m ((c : Thread nD τ).loc main_arg4) : Vec Ideal S8x1x128x128 .f32) (ix4 b 0 r c')) :
    imageLoss x0 x1 be k i t = (image m c b).lossK := by
  have h : blockImg x0 x1 be k i t = image m c b := by
    unfold blockImg image argImg
    simp only [h0, h1, h2, h3, h4, h5]
  rw [imageLoss_eq, h]

theorem loss_first (t : Fin cfg0.N) :
    lossOfFirst (F := Ideal) (iblk m c 0 t) (iblk m c 1 t) (iblk m c 2 t) (iblk m c 3 t) (iblk m c 4 t) (iblk m c 5 t)
      = (image m c (imageAt t 0)).lossK := by
  unfold lossOfFirst
  apply loss_of_reads
  · intro r k; pointwise; exact x0_block m c t 0 r k
  · intro r k; pointwise; exact x1_block m c t 0 r k
  · intro r k; pointwise; exact beta_block m c t 0 r k
  · intro o r k; pointwise; exact mask_block m c t 0 r k o
  · intro r k; pointwise; exact input_block m c t 0 r k
  · intro r k; pointwise; exact target_block m c t 0 r k

theorem loss_second (t : Fin cfg0.N) :
    lossOfSecond (F := Ideal) (iblk m c 0 t) (iblk m c 1 t) (iblk m c 2 t) (iblk m c 3 t) (iblk m c 4 t) (iblk m c 5 t)
      = (image m c (imageAt t 1)).lossK := by
  unfold lossOfSecond
  apply loss_of_reads
  · intro r k; pointwise; exact x0_block m c t 1 r k
  · intro r k; pointwise; exact x1_block m c t 1 r k
  · intro r k; pointwise; exact beta_block m c t 1 r k
  · intro o r k; pointwise; exact mask_block m c t 1 r k o
  · intro r k; pointwise; exact input_block m c t 1 r k
  · intro r k; pointwise; exact target_block m c t 1 r k

/-- What a point adds. -/
theorem step_apply (t : Fin cfg0.N) (acc : Vec Ideal S1x1 .f32) : step m c t acc (ix2 0 0)
    = acc (ix2 0 0) + ((image m c (imageAt t 0)).lossK * eighth + (image m c (imageAt t 1)).lossK * eighth) := by
  have hz : (Scalar.ofBits .f32 0x00000000#32 : Ideal .f32) = 0 := Ideal.ofBits_zero_f32
  show acc (ix2 0 0) + ((Scalar.ofBits .f32 0x00000000#32 : Ideal .f32) + _ + _) * eighth = _
  rw [hz, zero_add, loss_first, loss_second, add_mul_eighth]

/-- The number after the last point: an eighth of the eight losses. -/
theorem total_apply : total m c (ix2 0 0) = ∑ b, (image m c b).lossK * eighth := by
  have hz : (k0_pay38 (F := Ideal)) (ix2 0 0) = 0 := Ideal.ofBits_zero_f32
  unfold total
  rw [step_apply, step_apply, step_apply, step_apply, hz, zero_add, Fin.sum_univ_eight]
  simp only [add_assoc]
  rfl

/-- The run: the result holds an eighth of the eight losses, and the arguments are as they were. -/
theorem run_value (ρ : Dev nD → PrngReg) : θ_run defs (onTc (τ := τ) (main (F := Ideal))) ⟨m, fun _ => 0, ρ⟩ (fun r => ∀ c : Dev nD,
    r.2.mem ((c.tc : Thread nD τ).loc main_v5) = (fun _ => ∑ b, (image m c b).lossK * eighth)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ⟨(h.1 c).trans ?_, h.2 c⟩) (θ_run_and (run_total m ρ) (unchanged m ρ))
  funext y
  rw [← total_apply]
  have hy : y = ix0 := funext fun a => a.elim0
  subst hy
  pointwise

end Losses

end Cert.KernelIdeal.Gen

end
-- ==== Proof.RefOps.lean ====
module

public import proofs.«01_k».proof.Proof.Gen.ReferenceIdeal
public import Idealize.ShloMosaic.Lib.StableHlo.Run

/-! # The reference as a line of operations

The reference has no kernel in it: it is one straight line of array operations. They are listed here in seven
stretches, one per step of the loss, so that each stretch can be read on its own (`RefRun.lean`). -/

@[expose] public section

noncomputable section

namespace Cert.Ref

open Cert.ReferenceIdeal Cert.ReferenceIdeal.Gen Idealize.ShloMosaic Idealize.ShloMosaic.TcCoe Idealize.SL.Sem
  Idealize.ShloMosaic.StableHlo

variable {F : FTy → Type} [FloatOps F]

/-- Float arrays of shape `s`. -/
abbrev Arr (F : FTy → Type) (s : Shape) := (⟨s, .f32⟩ : BufTy).Contents (Elt F)
/-- Arrays of 32-bit integers of shape `s`. -/
abbrev Int32s (F : FTy → Type) (s : Shape) := (⟨s, .i32⟩ : BufTy).Contents (Elt F)

/-- The largest entry along the pixels, as the joint search for entry and place returns it. -/
def bestOf (x : Arr F S8x8x16384) (y : Int32s F S8x8x16384) (u : Arr F S_) (v : Int32s F S_) : Arr F S8x8 :=
  fun j => (Host.argReduce reducer_argmax_f32_i32 x y u v reducesTo_S8x8x16384_S8x8_d2 h_S_ j).1
/-- The place of the largest entry along the pixels. -/
def placeOf (x : Arr F S8x8x16384) (y : Int32s F S8x8x16384) (u : Arr F S_) (v : Int32s F S_) : Int32s F S8x8 :=
  fun j => (Host.argReduce reducer_argmax_f32_i32 x y u v reducesTo_S8x8x16384_S8x8_d2 h_S_ j).2
/-- Two index arrays side by side. -/
def pairUp (a b : Int32s F S8x8x1) : Int32s F S8x8x2 :=
  concatenate S8x8x2 2 [⟨S8x8x1, a⟩, ⟨S8x8x1, b⟩] concatenates_S8x8x1_S8x8x1_S8x8x2_d2
/-- The cluster coordinates at the indexed places. -/
def fetch (x : Arr F S8x16384x2) (i : Int32s F S8x8x2) : Arr F S8x8x2 :=
  Host.gather gather_S8x16384x2_S8x8x2_S8x8x2_2_01_n_n_01_2_112 x i

/-- Stretch: the reshapes, the background mask, the charges and the squared errors. -/
def setUp : List (HloOp τ sig (Elt F)) :=
  [ reshape main_arg1 main_v0 (rfl : (.f32 : EltTy) = .f32) shapeCasts_S8x128x128_S8x16384,
    reshape main_arg0 main_v1 (rfl : (.f32 : EltTy) = .f32) shapeCasts_S8x128x128x2_S8x16384x2,
    reshape main_arg2 main_v2 (rfl : (.f32 : EltTy) = .f32) shapeCasts_S8x8x128x128_S8x8x16384,
    nullary main_cst (constant S_ .f32 0x00000000#32),
    binary main_v2 main_cst main_v3 ((fun x v => Host.reduceAdd x v reducesTo_S8x8x16384_S8x16384_d1 h_S_) : (⟨S8x8x16384, .f32⟩ : BufTy).Contents (Elt F) → (⟨S_, .f32⟩ : BufTy).Contents (Elt F) → (⟨S8x16384, .f32⟩ : BufTy).Contents (Elt F)),
    nullary main_cst_0 (constant S_ .f32 0x3F800000#32),
    unary main_cst_0 main_v4 (broadcastInDim S8x16384 ![] bcast_S_S8x16384 : (⟨S_, .f32⟩ : BufTy).Contents (Elt F) → (⟨S8x16384, .f32⟩ : BufTy).Contents (Elt F)),
    binary main_v3 main_v4 main_v5 (cmpf .olt : (⟨S8x16384, .f32⟩ : BufTy).Contents (Elt F) → (⟨S8x16384, .f32⟩ : BufTy).Contents (Elt F) → (⟨S8x16384, .i1⟩ : BufTy).Contents (Elt F)),
    unary main_v5 main_v6 (uitofp .f32 : (⟨S8x16384, .i1⟩ : BufTy).Contents (Elt F) → (⟨S8x16384, .f32⟩ : BufTy).Contents (Elt F)),
    nullary main_cst_1 (constant S_ .f32 0x40000000#32),
    unary main_cst_1 main_v7 (broadcastInDim S8x16384 ![] bcast_S_S8x16384 : (⟨S_, .f32⟩ : BufTy).Contents (Elt F) → (⟨S8x16384, .f32⟩ : BufTy).Contents (Elt F)),
    binary main_v7 main_v0 main_v8 (mulf : (⟨S8x16384, .f32⟩ : BufTy).Contents (Elt F) → (⟨S8x16384, .f32⟩ : BufTy).Contents (Elt F) → (⟨S8x16384, .f32⟩ : BufTy).Contents (Elt F)),
    nullary main_cst_2 (constant S_ .f32 0x3F800000#32),
    unary main_cst_2 main_v9 (broadcastInDim S8x16384 ![] bcast_S_S8x16384 : (⟨S_, .f32⟩ : BufTy).Contents (Elt F) → (⟨S8x16384, .f32⟩ : BufTy).Contents (Elt F)),
    binary main_v9 main_v0 main_v10 (subf : (⟨S8x16384, .f32⟩ : BufTy).Contents (Elt F) → (⟨S8x16384, .f32⟩ : BufTy).Contents (Elt F) → (⟨S8x16384, .f32⟩ : BufTy).Contents (Elt F)),
    binary main_v8 main_v10 main_v11 (Host.divf : (⟨S8x16384, .f32⟩ : BufTy).Contents (Elt F) → (⟨S8x16384, .f32⟩ : BufTy).Contents (Elt F) → (⟨S8x16384, .f32⟩ : BufTy).Contents (Elt F)),
    unary main_v11 main_v12 (Host.log1p : (⟨S8x16384, .f32⟩ : BufTy).Contents (Elt F) → (⟨S8x16384, .f32⟩ : BufTy).Contents (Elt F)),
    nullary main_cst_3 (constant S_ .f32 0x40000000#32),
    unary main_cst_3 main_v13 (broadcastInDim S8x16384 ![] bcast_S_S8x16384 : (⟨S_, .f32⟩ : BufTy).Contents (Elt F) → (⟨S8x16384, .f32⟩ : BufTy).Contents (Elt F)),
    binary main_v12 main_v13 main_v14 (Host.divf : (⟨S8x16384, .f32⟩ : BufTy).Contents (Elt F) → (⟨S8x16384, .f32⟩ : BufTy).Contents (Elt F) → (⟨S8x16384, .f32⟩ : BufTy).Contents (Elt F)),
    binary main_v14 main_v14 main_v15 (mulf : (⟨S8x16384, .f32⟩ : BufTy).Contents (Elt F) → (⟨S8x16384, .f32⟩ : BufTy).Contents (Elt F) → (⟨S8x16384, .f32⟩ : BufTy).Contents (Elt F)),
    nullary main_cst_4 (constant S_ .f32 0x3DCCCCCD#32),
    unary main_cst_4 main_v16 (broadcastInDim S8x16384 ![] bcast_S_S8x16384 : (⟨S_, .f32⟩ : BufTy).Contents (Elt F) → (⟨S8x16384, .f32⟩ : BufTy).Contents (Elt F)),
    binary main_v15 main_v16 main_v17 (addf : (⟨S8x16384, .f32⟩ : BufTy).Contents (Elt F) → (⟨S8x16384, .f32⟩ : BufTy).Contents (Elt F) → (⟨S8x16384, .f32⟩ : BufTy).Contents (Elt F)),
    binary main_arg3 main_arg4 main_v18 (subf : (⟨S8x1x128x128, .f32⟩ : BufTy).Contents (Elt F) → (⟨S8x1x128x128, .f32⟩ : BufTy).Contents (Elt F) → (⟨S8x1x128x128, .f32⟩ : BufTy).Contents (Elt F)),
    binary main_v18 main_v18 main_v19 (mulf : (⟨S8x1x128x128, .f32⟩ : BufTy).Contents (Elt F) → (⟨S8x1x128x128, .f32⟩ : BufTy).Contents (Elt F) → (⟨S8x1x128x128, .f32⟩ : BufTy).Contents (Elt F)),
    reshape main_v19 main_v20 (rfl : (.f32 : EltTy) = .f32) shapeCasts_S8x1x128x128_S8x16384 ]

/-- The buffers the stretch `setUp` writes. -/
def setUpOuts : List (Ref sig .tc) :=
  [main_v0, main_v1, main_v2, main_cst, main_v3, main_cst_0, main_v4, main_v5, main_v6, main_cst_1, main_v7, main_v8, main_cst_2, main_v9, main_v10, main_v11, main_v12, main_cst_3, main_v13, main_v14, main_v15, main_cst_4, main_v16, main_v17, main_v18, main_v19, main_v20]

set_option maxRecDepth 8192 in
theorem setUp_sub : (setUp : List (HloOp τ sig (Elt F))).Forall fun op => op.bufs ⊆ tcRefs τ sig :=
  ⟨reshape_bufs_sub .., reshape_bufs_sub .., reshape_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., reshape_bufs_sub ..⟩

set_option maxRecDepth 8192 in
/-- What the stretch `setUp` does not write, it leaves as it was. -/
theorem setUp_keeps (V : Valuation τ sig (Elt F)) (r : Ref sig .tc) (h : r ∉ setUpOuts) :
    after setUp V (Proc.devRef .tc r) = V (Proc.devRef .tc r) :=
  after_of_writes_sub setUp V (forall_writes_sub_of_map (W := setUpOuts) rfl) h

/-- Stretch: the weighted mean of the squared errors. -/
def reconstruction : List (HloOp τ sig (Elt F)) :=
  [ nullary main_cst_5 (constant S_ .f32 0x3F800000#32),
    unary main_cst_5 main_v21 (broadcastInDim S8x16384 ![] bcast_S_S8x16384 : (⟨S_, .f32⟩ : BufTy).Contents (Elt F) → (⟨S8x16384, .f32⟩ : BufTy).Contents (Elt F)),
    binary main_v21 main_v6 main_v22 (subf : (⟨S8x16384, .f32⟩ : BufTy).Contents (Elt F) → (⟨S8x16384, .f32⟩ : BufTy).Contents (Elt F) → (⟨S8x16384, .f32⟩ : BufTy).Contents (Elt F)),
    nullary main_cst_6 (constant S_ .f32 0x3DCCCCCD#32),
    unary main_cst_6 main_v23 (broadcastInDim S8x16384 ![] bcast_S_S8x16384 : (⟨S_, .f32⟩ : BufTy).Contents (Elt F) → (⟨S8x16384, .f32⟩ : BufTy).Contents (Elt F)),
    binary main_v17 main_v23 main_v24 (subf : (⟨S8x16384, .f32⟩ : BufTy).Contents (Elt F) → (⟨S8x16384, .f32⟩ : BufTy).Contents (Elt F) → (⟨S8x16384, .f32⟩ : BufTy).Contents (Elt F)),
    binary main_v22 main_v24 main_v25 (mulf : (⟨S8x16384, .f32⟩ : BufTy).Contents (Elt F) → (⟨S8x16384, .f32⟩ : BufTy).Contents (Elt F) → (⟨S8x16384, .f32⟩ : BufTy).Contents (Elt F)),
    nullary main_cst_7 (constant S_ .f32 0x00000000#32),
    binary main_v25 main_cst_7 main_v26 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    nullary main_cst_8 (constant S_ .f32 0x3F800000#32),
    unary main_cst_8 main_v27 (broadcastInDim S8x16384 ![] bcast_S_S8x16384 : (⟨S_, .f32⟩ : BufTy).Contents (Elt F) → (⟨S8x16384, .f32⟩ : BufTy).Contents (Elt F)),
    binary main_v27 main_v6 main_v28 (subf : (⟨S8x16384, .f32⟩ : BufTy).Contents (Elt F) → (⟨S8x16384, .f32⟩ : BufTy).Contents (Elt F) → (⟨S8x16384, .f32⟩ : BufTy).Contents (Elt F)),
    nullary main_cst_9 (constant S_ .f32 0x3DCCCCCD#32),
    unary main_cst_9 main_v29 (broadcastInDim S8x16384 ![] bcast_S_S8x16384 : (⟨S_, .f32⟩ : BufTy).Contents (Elt F) → (⟨S8x16384, .f32⟩ : BufTy).Contents (Elt F)),
    binary main_v17 main_v29 main_v30 (subf : (⟨S8x16384, .f32⟩ : BufTy).Contents (Elt F) → (⟨S8x16384, .f32⟩ : BufTy).Contents (Elt F) → (⟨S8x16384, .f32⟩ : BufTy).Contents (Elt F)),
    binary main_v28 main_v30 main_v31 (mulf : (⟨S8x16384, .f32⟩ : BufTy).Contents (Elt F) → (⟨S8x16384, .f32⟩ : BufTy).Contents (Elt F) → (⟨S8x16384, .f32⟩ : BufTy).Contents (Elt F)),
    binary main_v31 main_v20 main_v32 (mulf : (⟨S8x16384, .f32⟩ : BufTy).Contents (Elt F) → (⟨S8x16384, .f32⟩ : BufTy).Contents (Elt F) → (⟨S8x16384, .f32⟩ : BufTy).Contents (Elt F)),
    nullary main_cst_10 (constant S_ .f32 0x00000000#32),
    binary main_v32 main_cst_10 main_v33 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    nullary main_cst_11 (constant S_ .f32 0x00000000#32),
    unary main_cst_11 main_v34 (broadcastInDim S8 ![] bcast_S_S8 : (⟨S_, .f32⟩ : BufTy).Contents (Elt F) → (⟨S8, .f32⟩ : BufTy).Contents (Elt F)),
    binary main_v26 main_v34 main_v35 (cmpf .oeq : (⟨S8, .f32⟩ : BufTy).Contents (Elt F) → (⟨S8, .f32⟩ : BufTy).Contents (Elt F) → (⟨S8, .i1⟩ : BufTy).Contents (Elt F)),
    nullary main_cst_12 (constant S_ .f32 0x3F800000#32),
    unary main_cst_12 main_v36 (broadcastInDim S8 ![] bcast_S_S8 : (⟨S_, .f32⟩ : BufTy).Contents (Elt F) → (⟨S8, .f32⟩ : BufTy).Contents (Elt F)),
    ternary main_v35 main_v36 main_v26 main_v37 (select : (⟨S8, .i1⟩ : BufTy).Contents (Elt F) → (⟨S8, .f32⟩ : BufTy).Contents (Elt F) → (⟨S8, .f32⟩ : BufTy).Contents (Elt F) → (⟨S8, .f32⟩ : BufTy).Contents (Elt F)),
    binary main_v33 main_v37 main_v38 (Host.divf : (⟨S8, .f32⟩ : BufTy).Contents (Elt F) → (⟨S8, .f32⟩ : BufTy).Contents (Elt F) → (⟨S8, .f32⟩ : BufTy).Contents (Elt F)),
    nullary main_cst_13 (constant S_ .f32 0x00000000#32),
    unary main_cst_13 main_v39 (broadcastInDim S8 ![] bcast_S_S8 : (⟨S_, .f32⟩ : BufTy).Contents (Elt F) → (⟨S8, .f32⟩ : BufTy).Contents (Elt F)),
    binary main_v26 main_v39 main_v40 (cmpf .oeq : (⟨S8, .f32⟩ : BufTy).Contents (Elt F) → (⟨S8, .f32⟩ : BufTy).Contents (Elt F) → (⟨S8, .i1⟩ : BufTy).Contents (Elt F)),
    nullary main_cst_14 (constant S_ .f32 0x00000000#32),
    unary main_cst_14 main_v41 (broadcastInDim S8 ![] bcast_S_S8 : (⟨S_, .f32⟩ : BufTy).Contents (Elt F) → (⟨S8, .f32⟩ : BufTy).Contents (Elt F)),
    ternary main_v40 main_v41 main_v38 main_v42 (select : (⟨S8, .i1⟩ : BufTy).Contents (Elt F) → (⟨S8, .f32⟩ : BufTy).Contents (Elt F) → (⟨S8, .f32⟩ : BufTy).Contents (Elt F) → (⟨S8, .f32⟩ : BufTy).Contents (Elt F)) ]

/-- The buffers the stretch `reconstruction` writes. -/
def reconstructionOuts : List (Ref sig .tc) :=
  [main_cst_5, main_v21, main_v22, main_cst_6, main_v23, main_v24, main_v25, main_cst_7, main_v26, main_cst_8, main_v27, main_v28, main_cst_9, main_v29, main_v30, main_v31, main_v32, main_cst_10, main_v33, main_cst_11, main_v34, main_v35, main_cst_12, main_v36, main_v37, main_v38, main_cst_13, main_v39, main_v40, main_cst_14, main_v41, main_v42]

set_option maxRecDepth 8192 in
theorem reconstruction_sub : (reconstruction : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., ternary_bufs_sub ..⟩

set_option maxRecDepth 8192 in
/-- What the stretch `reconstruction` does not write, it leaves as it was. -/
theorem reconstruction_keeps (V : Valuation τ sig (Elt F)) (r : Ref sig .tc) (h : r ∉ reconstructionOuts) :
    after reconstruction V (Proc.devRef .tc r) = V (Proc.devRef .tc r) :=
  after_of_writes_sub reconstruction V (forall_writes_sub_of_map (W := reconstructionOuts) rfl) h

/-- Stretch: the missing peaks and the mean of the background scores. -/
def background : List (HloOp τ sig (Elt F)) :=
  [ nullary main_cst_15 (constant S_ .f32 0x00000000#32),
    binary main_v6 main_cst_15 main_v43 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    unary main_v0 main_v44 (broadcastInDim S8x1x16384 ![0, 2] bcast_S8x16384_S8x1x16384_0_2 : (⟨S8x16384, .f32⟩ : BufTy).Contents (Elt F) → (⟨S8x1x16384, .f32⟩ : BufTy).Contents (Elt F)),
    unary main_v44 main_v45 (broadcastInDim S8x8x16384 ![0, 1, 2] bcast_S8x1x16384_S8x8x16384_0_1_2 : (⟨S8x1x16384, .f32⟩ : BufTy).Contents (Elt F) → (⟨S8x8x16384, .f32⟩ : BufTy).Contents (Elt F)),
    binary main_v45 main_v2 main_v46 (mulf : (⟨S8x8x16384, .f32⟩ : BufTy).Contents (Elt F) → (⟨S8x8x16384, .f32⟩ : BufTy).Contents (Elt F) → (⟨S8x8x16384, .f32⟩ : BufTy).Contents (Elt F)),
    nullary main_cst_16 (constant S_ .f32 0xFF800000#32),
    binary main_v46 main_cst_16 main_v47 ((fun x v => Host.reduce FloatOps.maximumf x v reducesTo_S8x8x16384_S8x8_d2 h_S_) : (⟨S8x8x16384, .f32⟩ : BufTy).Contents (Elt F) → (⟨S_, .f32⟩ : BufTy).Contents (Elt F) → (⟨S8x8, .f32⟩ : BufTy).Contents (Elt F)),
    nullary main_cst_17 (constant S_ .f32 0x3F800000#32),
    unary main_cst_17 main_v48 (broadcastInDim S8x8 ![] bcast_S_S8x8 : (⟨S_, .f32⟩ : BufTy).Contents (Elt F) → (⟨S8x8, .f32⟩ : BufTy).Contents (Elt F)),
    binary main_v48 main_v47 main_v49 (subf : (⟨S8x8, .f32⟩ : BufTy).Contents (Elt F) → (⟨S8x8, .f32⟩ : BufTy).Contents (Elt F) → (⟨S8x8, .f32⟩ : BufTy).Contents (Elt F)),
    nullary main_cst_18 (constant S_ .f32 0x00000000#32),
    binary main_v49 main_cst_18 main_v50 ((fun x v => Host.reduceAdd x v reducesTo_S8x8_S8_d1 h_S_) : (⟨S8x8, .f32⟩ : BufTy).Contents (Elt F) → (⟨S_, .f32⟩ : BufTy).Contents (Elt F) → (⟨S8, .f32⟩ : BufTy).Contents (Elt F)),
    nullary main_cst_19 (constant S_ .f32 0x41000000#32),
    unary main_cst_19 main_v51 (broadcastInDim S8 ![] bcast_S_S8 : (⟨S_, .f32⟩ : BufTy).Contents (Elt F) → (⟨S8, .f32⟩ : BufTy).Contents (Elt F)),
    binary main_v50 main_v51 main_v52 (Host.divf : (⟨S8, .f32⟩ : BufTy).Contents (Elt F) → (⟨S8, .f32⟩ : BufTy).Contents (Elt F) → (⟨S8, .f32⟩ : BufTy).Contents (Elt F)),
    binary main_v6 main_v0 main_v53 (mulf : (⟨S8x16384, .f32⟩ : BufTy).Contents (Elt F) → (⟨S8x16384, .f32⟩ : BufTy).Contents (Elt F) → (⟨S8x16384, .f32⟩ : BufTy).Contents (Elt F)),
    nullary main_cst_20 (constant S_ .f32 0x00000000#32),
    binary main_v53 main_cst_20 main_v54 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    nullary main_cst_21 (constant S_ .f32 0x3DCCCCCD#32),
    unary main_cst_21 main_v55 (broadcastInDim S8 ![] bcast_S_S8 : (⟨S_, .f32⟩ : BufTy).Contents (Elt F) → (⟨S8, .f32⟩ : BufTy).Contents (Elt F)),
    binary main_v55 main_v54 main_v56 (mulf : (⟨S8, .f32⟩ : BufTy).Contents (Elt F) → (⟨S8, .f32⟩ : BufTy).Contents (Elt F) → (⟨S8, .f32⟩ : BufTy).Contents (Elt F)),
    binary main_v56 main_v43 main_v57 (Host.divf : (⟨S8, .f32⟩ : BufTy).Contents (Elt F) → (⟨S8, .f32⟩ : BufTy).Contents (Elt F) → (⟨S8, .f32⟩ : BufTy).Contents (Elt F)),
    binary main_v52 main_v57 main_v58 (addf : (⟨S8, .f32⟩ : BufTy).Contents (Elt F) → (⟨S8, .f32⟩ : BufTy).Contents (Elt F) → (⟨S8, .f32⟩ : BufTy).Contents (Elt F)) ]

/-- The buffers the stretch `background` writes. -/
def backgroundOuts : List (Ref sig .tc) :=
  [main_cst_15, main_v43, main_v44, main_v45, main_v46, main_cst_16, main_v47, main_cst_17, main_v48, main_v49, main_cst_18, main_v50, main_cst_19, main_v51, main_v52, main_v53, main_cst_20, main_v54, main_cst_21, main_v55, main_v56, main_v57, main_v58]

set_option maxRecDepth 8192 in
theorem background_sub : (background : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., binary_bufs_sub ..⟩

set_option maxRecDepth 8192 in
/-- What the stretch `background` does not write, it leaves as it was. -/
theorem background_keeps (V : Valuation τ sig (Elt F)) (r : Ref sig .tc) (h : r ∉ backgroundOuts) :
    after background V (Proc.devRef .tc r) = V (Proc.devRef .tc r) :=
  after_of_writes_sub background V (forall_writes_sub_of_map (W := backgroundOuts) rfl) h

/-- Stretch: the largest charge of each object and the place of it. -/
def points : List (HloOp τ sig (Elt F)) :=
  [ unary main_v17 main_v59 (broadcastInDim S8x1x16384 ![0, 2] bcast_S8x16384_S8x1x16384_0_2 : (⟨S8x16384, .f32⟩ : BufTy).Contents (Elt F) → (⟨S8x1x16384, .f32⟩ : BufTy).Contents (Elt F)),
    unary main_v59 main_v60 (broadcastInDim S8x8x16384 ![0, 1, 2] bcast_S8x1x16384_S8x8x16384_0_1_2 : (⟨S8x1x16384, .f32⟩ : BufTy).Contents (Elt F) → (⟨S8x8x16384, .f32⟩ : BufTy).Contents (Elt F)),
    binary main_v60 main_v2 main_v61 (mulf : (⟨S8x8x16384, .f32⟩ : BufTy).Contents (Elt F) → (⟨S8x8x16384, .f32⟩ : BufTy).Contents (Elt F) → (⟨S8x8x16384, .f32⟩ : BufTy).Contents (Elt F)),
    nullary main_cst_22 (constant S_ .f32 0xFF800000#32),
    binary main_v61 main_cst_22 main_v62 ((fun x v => Host.reduce FloatOps.maximumf x v reducesTo_S8x8x16384_S8x8_d2 h_S_) : (⟨S8x8x16384, .f32⟩ : BufTy).Contents (Elt F) → (⟨S_, .f32⟩ : BufTy).Contents (Elt F) → (⟨S8x8, .f32⟩ : BufTy).Contents (Elt F)),
    unary main_v62 main_v63 (broadcastInDim S8x8x1 ![0, 1] bcast_S8x8_S8x8x1_0_1 : (⟨S8x8, .f32⟩ : BufTy).Contents (Elt F) → (⟨S8x8x1, .f32⟩ : BufTy).Contents (Elt F)),
    nullary main_call2_v0 (iotaInDim S8x8x16384 32 2),
    nullary main_call2_cst (constant S_ .f32 0xFF800000#32),
    nullary main_call2_c (constantI S_ 32 0#32),
    quaternary main_v61 main_call2_v0 main_call2_cst main_call2_c main_call2_v1_0 (fun x y u v => bestOf x y u v : (⟨S8x8x16384, .f32⟩ : BufTy).Contents (Elt F) → (⟨S8x8x16384, .i32⟩ : BufTy).Contents (Elt F) → (⟨S_, .f32⟩ : BufTy).Contents (Elt F) → (⟨S_, .i32⟩ : BufTy).Contents (Elt F) → (⟨S8x8, .f32⟩ : BufTy).Contents (Elt F)),
    quaternary main_v61 main_call2_v0 main_call2_cst main_call2_c main_v64 (fun x y u v => placeOf x y u v : (⟨S8x8x16384, .f32⟩ : BufTy).Contents (Elt F) → (⟨S8x8x16384, .i32⟩ : BufTy).Contents (Elt F) → (⟨S_, .f32⟩ : BufTy).Contents (Elt F) → (⟨S_, .i32⟩ : BufTy).Contents (Elt F) → (⟨S8x8, .i32⟩ : BufTy).Contents (Elt F)) ]

/-- The buffers the stretch `points` writes. -/
def pointsOuts : List (Ref sig .tc) :=
  [main_v59, main_v60, main_v61, main_cst_22, main_v62, main_v63, main_call2_v0, main_call2_cst, main_call2_c, main_call2_v1_0, main_v64]

set_option maxRecDepth 8192 in
theorem points_sub : (points : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., nullary_bufs_sub .., nullary_bufs_sub .., quaternary_bufs_sub .., quaternary_bufs_sub ..⟩

set_option maxRecDepth 8192 in
/-- What the stretch `points` does not write, it leaves as it was. -/
theorem points_keeps (V : Valuation τ sig (Elt F)) (r : Ref sig .tc) (h : r ∉ pointsOuts) :
    after points V (Proc.devRef .tc r) = V (Proc.devRef .tc r) :=
  after_of_writes_sub points V (forall_writes_sub_of_map (W := pointsOuts) rfl) h

/-- Stretch: the pairs (image, place) of the condensation points. -/
def places : List (HloOp τ sig (Elt F)) :=
  [ nullary main_v65 (iotaInDim S8 32 0),
    unary main_v65 main_v66 (broadcastInDim S8x1 ![0] bcast_S8_S8x1_0 : (⟨S8, .i32⟩ : BufTy).Contents (Elt F) → (⟨S8x1, .i32⟩ : BufTy).Contents (Elt F)),
    nullary main_c (constantI S_ 32 0#32),
    unary main_c main_v67 (broadcastInDim S8x1 ![] bcast_S_S8x1 : (⟨S_, .i32⟩ : BufTy).Contents (Elt F) → (⟨S8x1, .i32⟩ : BufTy).Contents (Elt F)),
    binary main_v66 main_v67 main_v68 (cmpi .slt : (⟨S8x1, .i32⟩ : BufTy).Contents (Elt F) → (⟨S8x1, .i32⟩ : BufTy).Contents (Elt F) → (⟨S8x1, .i1⟩ : BufTy).Contents (Elt F)),
    nullary main_c_23 (constantI S_ 32 8#32),
    unary main_c_23 main_v69 (broadcastInDim S8x1 ![] bcast_S_S8x1 : (⟨S_, .i32⟩ : BufTy).Contents (Elt F) → (⟨S8x1, .i32⟩ : BufTy).Contents (Elt F)),
    binary main_v66 main_v69 main_v70 (addi : (⟨S8x1, .i32⟩ : BufTy).Contents (Elt F) → (⟨S8x1, .i32⟩ : BufTy).Contents (Elt F) → (⟨S8x1, .i32⟩ : BufTy).Contents (Elt F)),
    ternary main_v68 main_v70 main_v66 main_v71 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_24 (constantI S_ 32 0#32),
    unary main_c_24 main_v72 (broadcastInDim S8x8 ![] bcast_S_S8x8 : (⟨S_, .i32⟩ : BufTy).Contents (Elt F) → (⟨S8x8, .i32⟩ : BufTy).Contents (Elt F)),
    binary main_v64 main_v72 main_v73 (cmpi .slt : (⟨S8x8, .i32⟩ : BufTy).Contents (Elt F) → (⟨S8x8, .i32⟩ : BufTy).Contents (Elt F) → (⟨S8x8, .i1⟩ : BufTy).Contents (Elt F)),
    nullary main_c_25 (constantI S_ 32 16384#32),
    unary main_c_25 main_v74 (broadcastInDim S8x8 ![] bcast_S_S8x8 : (⟨S_, .i32⟩ : BufTy).Contents (Elt F) → (⟨S8x8, .i32⟩ : BufTy).Contents (Elt F)),
    binary main_v64 main_v74 main_v75 (addi : (⟨S8x8, .i32⟩ : BufTy).Contents (Elt F) → (⟨S8x8, .i32⟩ : BufTy).Contents (Elt F) → (⟨S8x8, .i32⟩ : BufTy).Contents (Elt F)),
    ternary main_v73 main_v75 main_v64 main_v76 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    unary main_v71 main_v77 (broadcastInDim S8x8 ![0, 1] bcast_S8x1_S8x8_0_1 : (⟨S8x1, .i32⟩ : BufTy).Contents (Elt F) → (⟨S8x8, .i32⟩ : BufTy).Contents (Elt F)),
    unary main_v77 main_v78 (broadcastInDim S8x8x1 ![0, 1] bcast_S8x8_S8x8x1_0_1 : (⟨S8x8, .i32⟩ : BufTy).Contents (Elt F) → (⟨S8x8x1, .i32⟩ : BufTy).Contents (Elt F)),
    unary main_v76 main_v79 (broadcastInDim S8x8x1 ![0, 1] bcast_S8x8_S8x8x1_0_1 : (⟨S8x8, .i32⟩ : BufTy).Contents (Elt F) → (⟨S8x8x1, .i32⟩ : BufTy).Contents (Elt F)),
    binary main_v78 main_v79 main_v80 (pairUp : (⟨S8x8x1, .i32⟩ : BufTy).Contents (Elt F) → (⟨S8x8x1, .i32⟩ : BufTy).Contents (Elt F) → (⟨S8x8x2, .i32⟩ : BufTy).Contents (Elt F)) ]

/-- The buffers the stretch `places` writes. -/
def placesOuts : List (Ref sig .tc) :=
  [main_v65, main_v66, main_c, main_v67, main_v68, main_c_23, main_v69, main_v70, main_v71, main_c_24, main_v72, main_v73, main_c_25, main_v74, main_v75, main_v76, main_v77, main_v78, main_v79, main_v80]

set_option maxRecDepth 8192 in
theorem places_sub : (places : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩

set_option maxRecDepth 8192 in
/-- What the stretch `places` does not write, it leaves as it was. -/
theorem places_keeps (V : Valuation τ sig (Elt F)) (r : Ref sig .tc) (h : r ∉ placesOuts) :
    after places V (Proc.devRef .tc r) = V (Proc.devRef .tc r) :=
  after_of_writes_sub places V (forall_writes_sub_of_map (W := placesOuts) rfl) h

/-- Stretch: the distances of every pixel to the condensation points. -/
def distances : List (HloOp τ sig (Elt F)) :=
  [ binary main_v1 main_v80 main_v81 (fetch : (⟨S8x16384x2, .f32⟩ : BufTy).Contents (Elt F) → (⟨S8x8x2, .i32⟩ : BufTy).Contents (Elt F) → (⟨S8x8x2, .f32⟩ : BufTy).Contents (Elt F)),
    unary main_v1 main_v82 (broadcastInDim S8x1x16384x2 ![0, 2, 3] bcast_S8x16384x2_S8x1x16384x2_0_2_3 : (⟨S8x16384x2, .f32⟩ : BufTy).Contents (Elt F) → (⟨S8x1x16384x2, .f32⟩ : BufTy).Contents (Elt F)),
    unary main_v81 main_v83 (broadcastInDim S8x8x1x2 ![0, 1, 3] bcast_S8x8x2_S8x8x1x2_0_1_3 : (⟨S8x8x2, .f32⟩ : BufTy).Contents (Elt F) → (⟨S8x8x1x2, .f32⟩ : BufTy).Contents (Elt F)),
    unary main_v82 main_v84 (broadcastInDim S8x8x16384x2 ![0, 1, 2, 3] bcast_S8x1x16384x2_S8x8x16384x2_0_1_2_3 : (⟨S8x1x16384x2, .f32⟩ : BufTy).Contents (Elt F) → (⟨S8x8x16384x2, .f32⟩ : BufTy).Contents (Elt F)),
    unary main_v83 main_v85 (broadcastInDim S8x8x16384x2 ![0, 1, 2, 3] bcast_S8x8x1x2_S8x8x16384x2_0_1_2_3 : (⟨S8x8x1x2, .f32⟩ : BufTy).Contents (Elt F) → (⟨S8x8x16384x2, .f32⟩ : BufTy).Contents (Elt F)),
    binary main_v84 main_v85 main_v86 (subf : (⟨S8x8x16384x2, .f32⟩ : BufTy).Contents (Elt F) → (⟨S8x8x16384x2, .f32⟩ : BufTy).Contents (Elt F) → (⟨S8x8x16384x2, .f32⟩ : BufTy).Contents (Elt F)),
    binary main_v86 main_v86 main_call3_v0 (mulf : (⟨S8x8x16384x2, .f32⟩ : BufTy).Contents (Elt F) → (⟨S8x8x16384x2, .f32⟩ : BufTy).Contents (Elt F) → (⟨S8x8x16384x2, .f32⟩ : BufTy).Contents (Elt F)),
    nullary main_call3_cst (constant S_ .f32 0x00000000#32),
    binary main_call3_v0 main_call3_cst main_call3_v1 (fun x v => Host.reduceAdd x v reducesTo_S8x8x16384x2_S8x8x16384_d3 h_S_ : (⟨S8x8x16384x2, .f32⟩ : BufTy).Contents (Elt F) → (⟨S_, .f32⟩ : BufTy).Contents (Elt F) → (⟨S8x8x16384, .f32⟩ : BufTy).Contents (Elt F)),
    unary main_call3_v1 main_v87 (Host.sqrt : (⟨S8x8x16384, .f32⟩ : BufTy).Contents (Elt F) → (⟨S8x8x16384, .f32⟩ : BufTy).Contents (Elt F)) ]

/-- The buffers the stretch `distances` writes. -/
def distancesOuts : List (Ref sig .tc) :=
  [main_v81, main_v82, main_v83, main_v84, main_v85, main_v86, main_call3_v0, main_call3_cst, main_call3_v1, main_v87]

set_option maxRecDepth 8192 in
theorem distances_sub : (distances : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., nullary_bufs_sub .., binary_bufs_sub .., unary_bufs_sub ..⟩

set_option maxRecDepth 8192 in
/-- What the stretch `distances` does not write, it leaves as it was. -/
theorem distances_keeps (V : Valuation τ sig (Elt F)) (r : Ref sig .tc) (h : r ∉ distancesOuts) :
    after distances V (Proc.devRef .tc r) = V (Proc.devRef .tc r) :=
  after_of_writes_sub distances V (forall_writes_sub_of_map (W := distancesOuts) rfl) h

/-- Stretch: the potentials, and the mean over the images. -/
def potentials : List (HloOp τ sig (Elt F)) :=
  [ binary main_v87 main_v87 main_v88 (mulf : (⟨S8x8x16384, .f32⟩ : BufTy).Contents (Elt F) → (⟨S8x8x16384, .f32⟩ : BufTy).Contents (Elt F) → (⟨S8x8x16384, .f32⟩ : BufTy).Contents (Elt F)),
    unary main_v63 main_v89 (broadcastInDim S8x8x16384 ![0, 1, 2] bcast_S8x8x1_S8x8x16384_0_1_2 : (⟨S8x8x1, .f32⟩ : BufTy).Contents (Elt F) → (⟨S8x8x16384, .f32⟩ : BufTy).Contents (Elt F)),
    binary main_v88 main_v89 main_v90 (mulf : (⟨S8x8x16384, .f32⟩ : BufTy).Contents (Elt F) → (⟨S8x8x16384, .f32⟩ : BufTy).Contents (Elt F) → (⟨S8x8x16384, .f32⟩ : BufTy).Contents (Elt F)),
    nullary main_cst_26 (constant S_ .f32 0x3F800000#32),
    unary main_cst_26 main_v91 (broadcastInDim S8x8x16384 ![] bcast_S_S8x8x16384 : (⟨S_, .f32⟩ : BufTy).Contents (Elt F) → (⟨S8x8x16384, .f32⟩ : BufTy).Contents (Elt F)),
    binary main_v91 main_v87 main_v92 (subf : (⟨S8x8x16384, .f32⟩ : BufTy).Contents (Elt F) → (⟨S8x8x16384, .f32⟩ : BufTy).Contents (Elt F) → (⟨S8x8x16384, .f32⟩ : BufTy).Contents (Elt F)),
    nullary main_cst_27 (constant S_ .f32 0x00000000#32),
    unary main_cst_27 main_v93 (broadcastInDim S8x8x16384 ![] bcast_S_S8x8x16384 : (⟨S_, .f32⟩ : BufTy).Contents (Elt F) → (⟨S8x8x16384, .f32⟩ : BufTy).Contents (Elt F)),
    binary main_v93 main_v92 main_v94 (maximumf : (⟨S8x8x16384, .f32⟩ : BufTy).Contents (Elt F) → (⟨S8x8x16384, .f32⟩ : BufTy).Contents (Elt F) → (⟨S8x8x16384, .f32⟩ : BufTy).Contents (Elt F)),
    unary main_v63 main_v95 (broadcastInDim S8x8x16384 ![0, 1, 2] bcast_S8x8x1_S8x8x16384_0_1_2 : (⟨S8x8x1, .f32⟩ : BufTy).Contents (Elt F) → (⟨S8x8x16384, .f32⟩ : BufTy).Contents (Elt F)),
    binary main_v94 main_v95 main_v96 (mulf : (⟨S8x8x16384, .f32⟩ : BufTy).Contents (Elt F) → (⟨S8x8x16384, .f32⟩ : BufTy).Contents (Elt F) → (⟨S8x8x16384, .f32⟩ : BufTy).Contents (Elt F)),
    binary main_v2 main_v90 main_v97 (mulf : (⟨S8x8x16384, .f32⟩ : BufTy).Contents (Elt F) → (⟨S8x8x16384, .f32⟩ : BufTy).Contents (Elt F) → (⟨S8x8x16384, .f32⟩ : BufTy).Contents (Elt F)),
    nullary main_cst_28 (constant S_ .f32 0x3F800000#32),
    unary main_cst_28 main_v98 (broadcastInDim S8x8x16384 ![] bcast_S_S8x8x16384 : (⟨S_, .f32⟩ : BufTy).Contents (Elt F) → (⟨S8x8x16384, .f32⟩ : BufTy).Contents (Elt F)),
    binary main_v98 main_v2 main_v99 (subf : (⟨S8x8x16384, .f32⟩ : BufTy).Contents (Elt F) → (⟨S8x8x16384, .f32⟩ : BufTy).Contents (Elt F) → (⟨S8x8x16384, .f32⟩ : BufTy).Contents (Elt F)),
    binary main_v99 main_v96 main_v100 (mulf : (⟨S8x8x16384, .f32⟩ : BufTy).Contents (Elt F) → (⟨S8x8x16384, .f32⟩ : BufTy).Contents (Elt F) → (⟨S8x8x16384, .f32⟩ : BufTy).Contents (Elt F)),
    binary main_v97 main_v100 main_v101 (addf : (⟨S8x8x16384, .f32⟩ : BufTy).Contents (Elt F) → (⟨S8x8x16384, .f32⟩ : BufTy).Contents (Elt F) → (⟨S8x8x16384, .f32⟩ : BufTy).Contents (Elt F)),
    nullary main_cst_29 (constant S_ .f32 0x00000000#32),
    binary main_v101 main_cst_29 main_v102 ((fun x v => Host.reduceAdd x v reducesTo_S8x8x16384_S8x16384_d1 h_S_) : (⟨S8x8x16384, .f32⟩ : BufTy).Contents (Elt F) → (⟨S_, .f32⟩ : BufTy).Contents (Elt F) → (⟨S8x16384, .f32⟩ : BufTy).Contents (Elt F)),
    binary main_v17 main_v102 main_v103 (mulf : (⟨S8x16384, .f32⟩ : BufTy).Contents (Elt F) → (⟨S8x16384, .f32⟩ : BufTy).Contents (Elt F) → (⟨S8x16384, .f32⟩ : BufTy).Contents (Elt F)),
    nullary main_cst_30 (constant S_ .f32 0x00000000#32),
    binary main_v103 main_cst_30 main_v104 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    nullary main_cst_31 (constant S_ .f32 0x46800000#32),
    unary main_cst_31 main_v105 (broadcastInDim S8 ![] bcast_S_S8 : (⟨S_, .f32⟩ : BufTy).Contents (Elt F) → (⟨S8, .f32⟩ : BufTy).Contents (Elt F)),
    binary main_v104 main_v105 main_v106 (Host.divf : (⟨S8, .f32⟩ : BufTy).Contents (Elt F) → (⟨S8, .f32⟩ : BufTy).Contents (Elt F) → (⟨S8, .f32⟩ : BufTy).Contents (Elt F)),
    binary main_v58 main_v106 main_v107 (addf : (⟨S8, .f32⟩ : BufTy).Contents (Elt F) → (⟨S8, .f32⟩ : BufTy).Contents (Elt F) → (⟨S8, .f32⟩ : BufTy).Contents (Elt F)),
    nullary main_cst_32 (constant S_ .f32 0x3F800000#32),
    unary main_cst_32 main_v108 (broadcastInDim S8 ![] bcast_S_S8 : (⟨S_, .f32⟩ : BufTy).Contents (Elt F) → (⟨S8, .f32⟩ : BufTy).Contents (Elt F)),
    binary main_v108 main_v107 main_v109 (mulf : (⟨S8, .f32⟩ : BufTy).Contents (Elt F) → (⟨S8, .f32⟩ : BufTy).Contents (Elt F) → (⟨S8, .f32⟩ : BufTy).Contents (Elt F)),
    binary main_v42 main_v109 main_v110 (addf : (⟨S8, .f32⟩ : BufTy).Contents (Elt F) → (⟨S8, .f32⟩ : BufTy).Contents (Elt F) → (⟨S8, .f32⟩ : BufTy).Contents (Elt F)),
    nullary main_cst_33 (constant S_ .f32 0x00000000#32),
    binary main_v110 main_cst_33 main_v111 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_34 (constant S_ .f32 0x41000000#32),
    binary main_v111 main_cst_34 main_v112 (Host.divf : (⟨S_, .f32⟩ : BufTy).Contents (Elt F) → (⟨S_, .f32⟩ : BufTy).Contents (Elt F) → (⟨S_, .f32⟩ : BufTy).Contents (Elt F)) ]

/-- The buffers the stretch `potentials` writes. -/
def potentialsOuts : List (Ref sig .tc) :=
  [main_v88, main_v89, main_v90, main_cst_26, main_v91, main_v92, main_cst_27, main_v93, main_v94, main_v95, main_v96, main_v97, main_cst_28, main_v98, main_v99, main_v100, main_v101, main_cst_29, main_v102, main_v103, main_cst_30, main_v104, main_cst_31, main_v105, main_v106, main_v107, main_cst_32, main_v108, main_v109, main_v110, main_cst_33, main_v111, main_cst_34, main_v112]

set_option maxRecDepth 8192 in
theorem potentials_sub : (potentials : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., binary_bufs_sub ..⟩

set_option maxRecDepth 8192 in
/-- What the stretch `potentials` does not write, it leaves as it was. -/
theorem potentials_keeps (V : Valuation τ sig (Elt F)) (r : Ref sig .tc) (h : r ∉ potentialsOuts) :
    after potentials V (Proc.devRef .tc r) = V (Proc.devRef .tc r) :=
  after_of_writes_sub potentials V (forall_writes_sub_of_map (W := potentialsOuts) rfl) h

/-- No operation of the stretch `setUp` makes a fresh buffer. -/
theorem setUp_fresh : ∀ op ∈ (setUp : List (HloOp τ sig (Elt F))), op.fresh = ∅ := by
  intro op h
  repeat (cases h with | head => rfl | tail _ h => ?_)
  exact nomatch h

/-- No operation of the stretch `reconstruction` makes a fresh buffer. -/
theorem reconstruction_fresh : ∀ op ∈ (reconstruction : List (HloOp τ sig (Elt F))), op.fresh = ∅ := by
  intro op h
  repeat (cases h with | head => rfl | tail _ h => ?_)
  exact nomatch h

/-- No operation of the stretch `background` makes a fresh buffer. -/
theorem background_fresh : ∀ op ∈ (background : List (HloOp τ sig (Elt F))), op.fresh = ∅ := by
  intro op h
  repeat (cases h with | head => rfl | tail _ h => ?_)
  exact nomatch h

/-- No operation of the stretch `points` makes a fresh buffer. -/
theorem points_fresh : ∀ op ∈ (points : List (HloOp τ sig (Elt F))), op.fresh = ∅ := by
  intro op h
  repeat (cases h with | head => rfl | tail _ h => ?_)
  exact nomatch h

/-- No operation of the stretch `places` makes a fresh buffer. -/
theorem places_fresh : ∀ op ∈ (places : List (HloOp τ sig (Elt F))), op.fresh = ∅ := by
  intro op h
  repeat (cases h with | head => rfl | tail _ h => ?_)
  exact nomatch h

/-- No operation of the stretch `distances` makes a fresh buffer. -/
theorem distances_fresh : ∀ op ∈ (distances : List (HloOp τ sig (Elt F))), op.fresh = ∅ := by
  intro op h
  repeat (cases h with | head => rfl | tail _ h => ?_)
  exact nomatch h

/-- No operation of the stretch `potentials` makes a fresh buffer. -/
theorem potentials_fresh : ∀ op ∈ (potentials : List (HloOp τ sig (Elt F))), op.fresh = ∅ := by
  intro op h
  repeat (cases h with | head => rfl | tail _ h => ?_)
  exact nomatch h

/-- The whole line. -/
def ops : List (HloOp τ sig (Elt F)) :=
  setUp ++ reconstruction ++ background ++ points ++ places ++ distances ++ potentials

set_option maxRecDepth 16384 in
set_option maxHeartbeats 4000000 in
/-- The printed program is this line. -/
theorem main_eq (d : Dev nD) : main (F := F) d = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨setUp_sub, reconstruction_sub⟩, background_sub⟩, points_sub⟩, places_sub⟩, distances_sub⟩, potentials_sub⟩

theorem ops_fresh (op : HloOp τ sig (Elt F)) (h : op ∈ (ops : List (HloOp τ sig (Elt F)))) : op.fresh = ∅ := by
  simp only [ops, List.mem_append] at h
  rcases h with (((((h | h) | h) | h) | h) | h) | h
  exacts [setUp_fresh op h, reconstruction_fresh op h, background_fresh op h, points_fresh op h, places_fresh op h, distances_fresh op h, potentials_fresh op h]

end Cert.Ref

end
-- ==== Proof.FirstMax.lean ====
/- The reference's joint search for the largest entry and its place finds the FIRST place. -/
module

public import proofs.«01_k».proof.Proof.RefOps
public import proofs.«01_k».proof.Proof.Pixels
public import proofs.«01_k».proof.Proof.Spec
public import Idealize.ShloMosaic.Lib.Pointwise
public import Idealize.ShloMosaic.Lib.IdealHost

@[expose] public section

noncomputable section

namespace Cert.Ref

open Cert.ReferenceIdeal Cert.ReferenceIdeal.Gen Idealize.ShloMosaic Cert.Pixels Cert.Cond

/-- One step of the search keeps the left pair if its entry is larger, or as large and its place earlier. -/
theorem search_step (a b : Ideal .f32 × BitVec 32) : reducer_argmax_f32_i32 (F := Ideal) a b
    = if b.1 < a.1 ∨ a.1 = b.1 ∧ a.2.toInt < b.2.toInt then a else b := by
  obtain ⟨x, i⟩ := a
  obtain ⟨y, j⟩ := b
  have e1 : FloatOps.cmpf .ogt x y = BitVec.ofBool (decide (y < x)) := rfl
  have e2 : FloatOps.cmpf .une x x = BitVec.ofBool (decide (x ≠ x)) := rfl
  have e3 : FloatOps.cmpf .oeq x y = BitVec.ofBool (decide (x = y)) := rfl
  have e4 : IntOp.cmpi .slt i j = BitVec.ofBool (decide (i.toInt < j.toInt)) := rfl
  have e5 : decide (x ≠ x) = false := by simp
  unfold reducer_argmax_f32_i32
  dsimp only
  rw [e1, e2, e3, e4, e5]
  by_cases h1 : y < x
  · rw [if_pos (.inl h1), decide_eq_true h1]
    cases decide (x = y) <;> cases decide (i.toInt < j.toInt) <;> rfl
  · by_cases h2 : x = y
    · by_cases h3 : i.toInt < j.toInt
      · rw [if_pos (.inr ⟨h2, h3⟩), decide_eq_false h1, decide_eq_true h2, decide_eq_true h3, h2]
        rfl
      · rw [if_neg (not_or.mpr ⟨h1, fun h => h3 h.2⟩), decide_eq_false h1, decide_eq_true h2, decide_eq_false h3]
        rfl
    · rw [if_neg (not_or.mpr ⟨h1, fun h => h2 h.1⟩), decide_eq_false h1, decide_eq_false h2]
      cases decide (i.toInt < j.toInt) <;> rfl

/-- Pair `r` is at least as good as `p`: its entry is larger, or as large and its place no later. -/
def Beats (r p : Ideal .f32 × BitVec 32) : Prop := p.1 < r.1 ∨ p.1 = r.1 ∧ r.2.toInt ≤ p.2.toInt

theorem Beats.refl (p : Ideal .f32 × BitVec 32) : Beats p p := .inr ⟨rfl, le_rfl⟩

theorem Beats.trans {r p s : Ideal .f32 × BitVec 32} (h : Beats r p) (h' : Beats p s) : Beats r s := by
  rcases h with h | ⟨h, hi⟩ <;> rcases h' with h' | ⟨h', hj⟩
  · exact .inl (lt_trans h' h)
  · exact .inl (h' ▸ h)
  · exact .inl (h ▸ h')
  · exact .inr ⟨h'.trans h, hi.trans hj⟩

/-- A step returns one of its two pairs, and it beats both. -/
theorem step_best (a b : Ideal .f32 × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [search_step]
  by_cases h : b.1 < a.1 ∨ a.1 = b.1 ∧ a.2.toInt < b.2.toInt
  · rw [if_pos h]
    exact ⟨.inl rfl, Beats.refl a, h.imp id fun h => ⟨h.1.symm, h.2.le⟩⟩
  · rw [if_neg h]
    obtain ⟨h1, h2⟩ := not_or.mp h
    refine ⟨.inr rfl, ?_, Beats.refl b⟩
    rcases lt_or_eq_of_le (not_lt.mp h1) with h3 | h3
    · exact .inl h3
    · exact .inr ⟨h3, not_lt.mp fun h4 => h2 ⟨h3, h4⟩⟩

/-- The search over a list returns one of its pairs, and it beats them all. -/
theorem search_best (l : List (Ideal .f32 × BitVec 32)) (a : Ideal .f32 × BitVec 32) :
    l.foldl (reducer_argmax_f32_i32 (F := Ideal)) a ∈ a :: l
      ∧ ∀ p ∈ a :: l, Beats (l.foldl (reducer_argmax_f32_i32 (F := Ideal)) a) p := by
  induction l generalizing a with
  | nil => exact ⟨List.mem_cons_self, fun p hp => by rw [List.mem_singleton.mp hp]; exact Beats.refl a⟩
  | cons b l ih =>
    rw [List.foldl_cons]
    obtain ⟨hm, hb⟩ := ih (reducer_argmax_f32_i32 (F := Ideal) a b)
    obtain ⟨hs, ha, hb'⟩ := step_best a b
    have hh := hb _ List.mem_cons_self
    constructor
    · rcases List.mem_cons.mp hm with h | h
      · rw [h]
        rcases hs with h | h
        · rw [h]; exact List.mem_cons_self
        · rw [h]; exact List.mem_cons_of_mem _ List.mem_cons_self
      · exact List.mem_cons_of_mem _ (List.mem_cons_of_mem _ h)
    · intro p hp
      rcases List.mem_cons.mp hp with rfl | hp
      · exact hh.trans ha
      · rcases List.mem_cons.mp hp with rfl | hp
        · exact hh.trans hb'
        · exact hb p (List.mem_cons_of_mem _ hp)

/-- What the search over one object's pixels runs through. -/
theorem mem_fiber (x : Arr Ideal S8x8x16384) (b k : Fin 8) (p : Ideal .f32 × BitVec 32) :
    p ∈ Host.argReduceFiber x (iotaInDim S8x8x16384 32 2) reducesTo_S8x8x16384_S8x8_d2 (ix2 b k)
      ↔ ∃ n : Fin 16384, p = (x (ix3 b k n), BitVec.ofNat 32 n.val) := by
  unfold Host.argReduceFiber
  rw [List.mem_map]
  constructor
  · rintro ⟨n, hn, rfl⟩
    have hd := of_decide_eq_true (List.mem_filter.mp hn).2
    generalize (S8x8x16384 : Shape).rowMajor.symm n = i at hd ⊢
    have h0 : i 0 = b := Fin.ext (by
      rw [← Shape.ReducesTo.drop_apply_val_of_eq reducesTo_S8x8x16384_S8x8_d2 i 0 0, hd]; rfl)
    have h1 : i 1 = k := Fin.ext (by
      rw [← Shape.ReducesTo.drop_apply_val_of_eq reducesTo_S8x8x16384_S8x8_d2 i 1 1, hd]; rfl)
    have hi : i = ix3 b k (i 2) := by
      rw [← h0, ← h1]; exact eq_ix3 i
    exact ⟨i 2, by rw [hi]; rfl⟩
  · rintro ⟨n, rfl⟩
    refine ⟨(S8x8x16384 : Shape).rowMajor (ix3 b k n), List.mem_filter.mpr ⟨List.mem_finRange _, decide_eq_true ?_⟩, ?_⟩
    · rw [Equiv.symm_apply_apply]
      funext a
      apply Fin.ext
      match a with
      | ⟨0, _⟩ => exact Shape.ReducesTo.drop_apply_val_of_eq reducesTo_S8x8x16384_S8x8_d2 (ix3 b k n) 0 0
      | ⟨1, _⟩ => exact Shape.ReducesTo.drop_apply_val_of_eq reducesTo_S8x8x16384_S8x8_d2 (ix3 b k n) 1 1
    · rw [Equiv.symm_apply_apply]; rfl

/-- A pixel's number, read back from its 32-bit word. -/
theorem toInt_pixel (n : Fin 16384) : (BitVec.ofNat 32 n.val).toInt = n.val := by
  have h := n.isLt
  rw [BitVec.toInt_eq_toNat_of_lt (by rw [BitVec.toNat_ofNat]; omega), BitVec.toNat_ofNat]; omega

/-- The search returns the first pixel that holds the largest entry. -/
theorem placeOf_apply (x : Arr Ideal S8x8x16384) (b k : Fin 8) :
    placeOf x (iotaInDim S8x8x16384 32 2) (constant (F := Ideal) S_ .f32 0xFF800000#32) (constantI S_ 32 0#32) (ix2 b k)
      = BitVec.ofNat 32 (firstMax fun n => x (ix3 b k n)).val := by
  unfold placeOf
  rw [Ideal.argReduce_eq_reduce2, Host.reduce2_eq_foldl_fiber]
  have e1 : (constant (F := Ideal) S_ .f32 0xFF800000#32) (Shape.Idx.first h_S_) = ⊥ := neg_inf
  have e2 : (constantI S_ 32 0#32) (Shape.Idx.first h_S_) = 0#32 := rfl
  rw [e1, e2]
  obtain ⟨hm, hb⟩ := search_best
    (Host.argReduceFiber x (iotaInDim S8x8x16384 32 2) reducesTo_S8x8x16384_S8x8_d2 (ix2 b k)) (⊥, 0#32)
  revert hm hb
  generalize List.foldl _ _ _ = r
  intro hm hb
  have hall : ∀ n : Fin 16384, Beats r (x (ix3 b k n), BitVec.ofNat 32 n.val) := fun n =>
    hb _ (List.mem_cons_of_mem _ ((mem_fiber x b k _).mpr ⟨n, rfl⟩))
  have hle : ∀ n : Fin 16384, x (ix3 b k n) ≤ r.1 := fun n => (hall n).elim le_of_lt fun h => h.1.le
  rcases List.mem_cons.mp hm with h | h
  · have h0 : firstMax (fun n => x (ix3 b k n)) = (0 : Fin 16384) := by
      have hbot : ∀ n : Fin 16384, x (ix3 b k n) = ⊥ := fun n => le_bot_iff.mp (by have := hle n; rwa [h] at this)
      refine firstMax_eq _ _ ?_ fun n _ => Fin.zero_le n
      show x (ix3 b k 0) = _
      rw [hbot 0]
      exact (le_bot_iff.mp (Finset.sup_le fun n _ => (hbot n).le)).symm
    rw [h0, h]
    rfl
  · obtain ⟨n, hn⟩ := (mem_fiber x b k r).mp h
    have hsup : Finset.univ.sup (fun n => x (ix3 b k n)) = x (ix3 b k n) :=
      le_antisymm (Finset.sup_le fun j _ => by have := hle j; rwa [hn] at this)
        (Finset.le_sup (f := fun n => x (ix3 b k n)) (Finset.mem_univ n))
    have h0 : firstMax (fun n => x (ix3 b k n)) = n := by
      refine firstMax_eq _ _ hsup.symm fun j hj => ?_
      rcases hall j with hlt | ⟨-, hij⟩
      · rw [hn] at hlt
        exact absurd hlt (not_lt.mpr (by show x (ix3 b k n) ≤ x (ix3 b k j); rw [hj, hsup]))
      · rw [hn] at hij
        dsimp only at hij
        rw [toInt_pixel, toInt_pixel] at hij
        exact_mod_cast hij
    rw [h0, hn]

end Cert.Ref

end
-- ==== Proof.RefRun.lean ====
module

public import proofs.«01_k».proof.Proof.RefOps

/-! # What the reference computes

The loss of the reference as one expression of the five arguments, and the run that leaves it in the result buffer.
Each definition below is what one stretch of `RefOps.lean` leaves for the later ones. -/

@[expose] public section

noncomputable section

namespace Cert.Ref

open Cert.ReferenceIdeal Cert.ReferenceIdeal.Gen Idealize.ShloMosaic Idealize.ShloMosaic.TcCoe Idealize.SL.Sem
  Idealize.ShloMosaic.StableHlo

variable {F : FTy → Type} [FloatOps F]

/-! ## Constants spread over a shape -/

/-- A float constant at every (image, pixel). -/
def perPixel (w : BitVec 32) : Arr F S8x16384 := broadcastInDim S8x16384 ![] bcast_S_S8x16384 (constant S_ .f32 w)
/-- A float constant at every image. -/
def perImage (w : BitVec 32) : Arr F S8 := broadcastInDim S8 ![] bcast_S_S8 (constant S_ .f32 w)
/-- A float constant at every (image, object). -/
def perObject (w : BitVec 32) : Arr F S8x8 := broadcastInDim S8x8 ![] bcast_S_S8x8 (constant S_ .f32 w)
/-- A float constant at every (image, object, pixel). -/
def perBoth (w : BitVec 32) : Arr F S8x8x16384 := broadcastInDim S8x8x16384 ![] bcast_S_S8x8x16384 (constant S_ .f32 w)

/-! ## Sums and maxima along one axis -/

/-- Sum over the pixels of each image. -/
def overPixels (x : Arr F S8x16384) : Arr F S8 :=
  Host.reduceAdd x (constant S_ .f32 0x00000000#32) reducesTo_S8x16384_S8_d1 h_S_
/-- Sum over the objects at each pixel. -/
def overObjects (x : Arr F S8x8x16384) : Arr F S8x16384 :=
  Host.reduceAdd x (constant S_ .f32 0x00000000#32) reducesTo_S8x8x16384_S8x16384_d1 h_S_
/-- Largest value of each object over the pixels. -/
def largest (x : Arr F S8x8x16384) : Arr F S8x8 :=
  Host.reduce FloatOps.maximumf x (constant S_ .f32 0xFF800000#32) reducesTo_S8x8x16384_S8x8_d2 h_S_
/-- A field over the pixels, repeated for every object. -/
def forObjects (x : Arr F S8x16384) : Arr F S8x8x16384 :=
  broadcastInDim S8x8x16384 ![0, 1, 2] bcast_S8x1x16384_S8x8x16384_0_1_2
    (broadcastInDim S8x1x16384 ![0, 2] bcast_S8x16384_S8x1x16384_0_2 x)

/-! ## The steps of the loss -/

/-- The condensation scores, one row per image. -/
def scores (b : Arr F S8x128x128) : Arr F S8x16384 := shapeCast S8x16384 b shapeCasts_S8x128x128_S8x16384
/-- The cluster coordinates, one row of pixels per image. -/
def coords (x : Arr F S8x128x128x2) : Arr F S8x16384x2 := shapeCast S8x16384x2 x shapeCasts_S8x128x128x2_S8x16384x2
/-- The object masks, one row of pixels per (image, object). -/
def masks (m : Arr F S8x8x128x128) : Arr F S8x8x16384 := shapeCast S8x8x16384 m shapeCasts_S8x8x128x128_S8x8x16384
/-- One where no object covers the pixel. -/
def uncovered (mk : Arr F S8x8x16384) : Arr F S8x16384 :=
  uitofp .f32 (cmpf .olt (overObjects mk) (perPixel 0x3F800000#32) : (⟨S8x16384, .i1⟩ : BufTy).Contents (Elt F))
/-- Half the logarithm of `1 + 2b/(1-b)`. -/
def halfLog (be : Arr F S8x16384) : Arr F S8x16384 :=
  Host.divf (Host.log1p (Host.divf (mulf (perPixel 0x40000000#32) be) (subf (perPixel 0x3F800000#32) be)))
    (perPixel 0x40000000#32)
/-- The charge of every pixel. -/
def charges (be : Arr F S8x16384) : Arr F S8x16384 := addf (mulf (halfLog be) (halfLog be)) (perPixel 0x3DCCCCCD#32)
/-- The squared error of every pixel. -/
def errors (i t : Arr F S8x1x128x128) : Arr F S8x16384 :=
  shapeCast S8x16384 (mulf (subf i t) (subf i t)) shapeCasts_S8x1x128x128_S8x16384

/-- The weight of a pixel's error. -/
def weights (nz q : Arr F S8x16384) : Arr F S8x16384 :=
  mulf (subf (perPixel 0x3F800000#32) nz) (subf q (perPixel 0x3DCCCCCD#32))
/-- The images whose weights add up to zero. -/
def weightless (nz q : Arr F S8x16384) : (⟨S8, .i1⟩ : BufTy).Contents (Elt F) :=
  cmpf .oeq (overPixels (weights nz q)) (perImage 0x00000000#32)
/-- The weighted mean of the errors. -/
def recons (nz q er : Arr F S8x16384) : Arr F S8 :=
  select (weightless nz q) (perImage 0x00000000#32)
    (Host.divf (overPixels (mulf (weights nz q) er))
      (select (weightless nz q) (perImage 0x3F800000#32) (overPixels (weights nz q))))

/-- The missing peaks and the mean of the background scores. -/
def backgrounds (be : Arr F S8x16384) (mk : Arr F S8x8x16384) (nz : Arr F S8x16384) : Arr F S8 :=
  addf
    (Host.divf (Host.reduceAdd (subf (perObject 0x3F800000#32) (largest (mulf (forObjects be) mk)))
      (constant S_ .f32 0x00000000#32) reducesTo_S8x8_S8_d1 h_S_) (perImage 0x41000000#32))
    (Host.divf (mulf (perImage 0x3DCCCCCD#32) (overPixels (mulf nz be))) (overPixels nz))

/-- The charges each object holds. -/
def helds (q : Arr F S8x16384) (mk : Arr F S8x8x16384) : Arr F S8x8x16384 := mulf (forObjects q) mk
/-- The largest charge each object holds, with a last axis of length one. -/
def tops (q : Arr F S8x16384) (mk : Arr F S8x8x16384) : Arr F S8x8x1 :=
  broadcastInDim S8x8x1 ![0, 1] bcast_S8x8_S8x8x1_0_1 (largest (helds q mk))
/-- Where each object holds its largest charge. -/
def spots (q : Arr F S8x16384) (mk : Arr F S8x8x16384) : Int32s F S8x8 :=
  placeOf (helds q mk) (iotaInDim S8x8x16384 32 2) (constant S_ .f32 0xFF800000#32) (constantI S_ 32 0#32)

/-- The number of the image, a negative one counted from the end. -/
def imageIx : Int32s F S8x1 :=
  let n : Int32s F S8x1 := broadcastInDim S8x1 ![0] bcast_S8_S8x1_0 (iotaInDim S8 32 0)
  select (cmpi .slt n (broadcastInDim S8x1 ![] bcast_S_S8x1 (constantI S_ 32 0#32)))
    (addi n (broadcastInDim S8x1 ![] bcast_S_S8x1 (constantI S_ 32 8#32))) n
/-- The place, a negative one counted from the end. -/
def placeIx (p : Int32s F S8x8) : Int32s F S8x8 :=
  select (cmpi .slt p (broadcastInDim S8x8 ![] bcast_S_S8x8 (constantI S_ 32 0#32)))
    (addi p (broadcastInDim S8x8 ![] bcast_S_S8x8 (constantI S_ 32 16384#32))) p
/-- The pairs (image, place). -/
def pairs (p : Int32s F S8x8) : Int32s F S8x8x2 :=
  pairUp
    (broadcastInDim S8x8x1 ![0, 1] bcast_S8x8_S8x8x1_0_1 (broadcastInDim S8x8 ![0, 1] bcast_S8x1_S8x8_0_1 (imageIx (F := F))))
    (broadcastInDim S8x8x1 ![0, 1] bcast_S8x8_S8x8x1_0_1 (placeIx p))

/-- The difference of every pixel's coordinates and each condensation point's. -/
def offsets (x : Arr F S8x16384x2) (ij : Int32s F S8x8x2) : Arr F S8x8x16384x2 :=
  subf
    (broadcastInDim S8x8x16384x2 ![0, 1, 2, 3] bcast_S8x1x16384x2_S8x8x16384x2_0_1_2_3
      (broadcastInDim S8x1x16384x2 ![0, 2, 3] bcast_S8x16384x2_S8x1x16384x2_0_2_3 x))
    (broadcastInDim S8x8x16384x2 ![0, 1, 2, 3] bcast_S8x8x1x2_S8x8x16384x2_0_1_2_3
      (broadcastInDim S8x8x1x2 ![0, 1, 3] bcast_S8x8x2_S8x8x1x2_0_1_3 (fetch x ij)))
/-- The distance of every pixel to each condensation point. -/
def lengths (x : Arr F S8x16384x2) (ij : Int32s F S8x8x2) : Arr F S8x8x16384 :=
  Host.sqrt (Host.reduceAdd (mulf (offsets x ij) (offsets x ij)) (constant S_ .f32 0x00000000#32)
    reducesTo_S8x8x16384x2_S8x8x16384_d3 h_S_)

/-- The potential of each object at every pixel, from distances `d` and largest charges `tp`. -/
def potential (mk d : Arr F S8x8x16384) (tp : Arr F S8x8x1) : Arr F S8x8x16384 :=
  let t : Arr F S8x8x16384 := broadcastInDim S8x8x16384 ![0, 1, 2] bcast_S8x8x1_S8x8x16384_0_1_2 tp
  addf (mulf mk (mulf (mulf d d) t))
    (mulf (subf (perBoth 0x3F800000#32) mk)
      (mulf (maximumf (perBoth 0x00000000#32) (subf (perBoth 0x3F800000#32) d)) t))
/-- The loss of every image. -/
def losses (rc bg : Arr F S8) (q : Arr F S8x16384) (mk d : Arr F S8x8x16384) (tp : Arr F S8x8x1) : Arr F S8 :=
  addf rc (mulf (perImage 0x3F800000#32)
    (addf bg (Host.divf (overPixels (mulf q (overObjects (potential mk d tp)))) (perImage 0x46800000#32))))
/-- The mean over the images. -/
def meanOf (l : Arr F S8) : Arr F S_ :=
  Host.divf (Host.reduceAdd l (constant S_ .f32 0x00000000#32) reducesTo_S8_S_d0 h_S_) (constant S_ .f32 0x41000000#32)

/-- The losses of the images, as an expression of the arguments. -/
def lossesOf (x : Arr F S8x128x128x2) (b : Arr F S8x128x128) (m : Arr F S8x8x128x128) (i t : Arr F S8x1x128x128) : Arr F S8 :=
  losses (recons (uncovered (masks m)) (charges (scores b)) (errors i t))
    (backgrounds (scores b) (masks m) (uncovered (masks m))) (charges (scores b)) (masks m)
    (lengths (coords x) (pairs (spots (charges (scores b)) (masks m)))) (tops (charges (scores b)) (masks m))

/-! ## Each stretch leaves its step -/

section Stretches

variable (V : Valuation τ sig (Elt F))

set_option maxHeartbeats 4000000

theorem setUp_scores : after setUp V (Proc.devRef .tc main_v0) = scores (V (Proc.devRef .tc main_arg1)) := by
  simp only [setUp]; after_results_simp; rfl
theorem setUp_coords : after setUp V (Proc.devRef .tc main_v1) = coords (V (Proc.devRef .tc main_arg0)) := by
  simp only [setUp]; after_results_simp; rfl
theorem setUp_masks : after setUp V (Proc.devRef .tc main_v2) = masks (V (Proc.devRef .tc main_arg2)) := by
  simp only [setUp]; after_results_simp; rfl
theorem setUp_uncovered : after setUp V (Proc.devRef .tc main_v6) = uncovered (masks (V (Proc.devRef .tc main_arg2))) := by
  simp only [setUp]; after_results_simp; rfl
theorem setUp_charges : after setUp V (Proc.devRef .tc main_v17) = charges (scores (V (Proc.devRef .tc main_arg1))) := by
  simp only [setUp]; after_results_simp; rfl
theorem setUp_errors : after setUp V (Proc.devRef .tc main_v20) = errors (V (Proc.devRef .tc main_arg3)) (V (Proc.devRef .tc main_arg4)) := by
  simp only [setUp]; after_results_simp; rfl
theorem reconstruction_recons :
    after reconstruction V (Proc.devRef .tc main_v42) = recons (V (Proc.devRef .tc main_v6)) (V (Proc.devRef .tc main_v17)) (V (Proc.devRef .tc main_v20)) := by
  simp only [reconstruction]; after_results_simp; rfl
theorem background_backgrounds :
    after background V (Proc.devRef .tc main_v58) = backgrounds (V (Proc.devRef .tc main_v0)) (V (Proc.devRef .tc main_v2)) (V (Proc.devRef .tc main_v6)) := by
  simp only [background]; after_results_simp; rfl
theorem points_tops : after points V (Proc.devRef .tc main_v63) = tops (V (Proc.devRef .tc main_v17)) (V (Proc.devRef .tc main_v2)) := by
  simp only [points]; after_results_simp; rfl
theorem points_spots : after points V (Proc.devRef .tc main_v64) = spots (V (Proc.devRef .tc main_v17)) (V (Proc.devRef .tc main_v2)) := by
  simp only [points]; after_results_simp; rfl
theorem places_pairs : after places V (Proc.devRef .tc main_v80) = pairs (V (Proc.devRef .tc main_v64)) := by
  simp only [places]; after_results_simp; rfl
theorem distances_lengths : after distances V (Proc.devRef .tc main_v87) = lengths (V (Proc.devRef .tc main_v1)) (V (Proc.devRef .tc main_v80)) := by
  simp only [distances]; after_results_simp; rfl
theorem potentials_mean : after potentials V (Proc.devRef .tc main_v112)
    = meanOf (losses (V (Proc.devRef .tc main_v42)) (V (Proc.devRef .tc main_v58)) (V (Proc.devRef .tc main_v17)) (V (Proc.devRef .tc main_v2)) (V (Proc.devRef .tc main_v87)) (V (Proc.devRef .tc main_v63))) := by
  simp only [potentials]; after_results_simp; rfl

theorem after_append (l l' : List (HloOp τ sig (Elt F))) (W : Valuation τ sig (Elt F)) :
    after (l ++ l') W = after l' (after l W) := by
  induction l generalizing W with
  | nil => rfl
  | cons op l ih => exact ih _

/-- The whole line leaves the mean loss in its result buffer. -/
theorem ops_mean : after ops V (Proc.devRef .tc main_v112)
    = meanOf (lossesOf (V (Proc.devRef .tc main_arg0)) (V (Proc.devRef .tc main_arg1)) (V (Proc.devRef .tc main_arg2)) (V (Proc.devRef .tc main_arg3)) (V (Proc.devRef .tc main_arg4))) := by
  simp only [ops, after_append]
  rw [potentials_mean,
    -- the distances and what they read
    distances_lengths, places_pairs, places_keeps _ main_v1 (by decide), points_spots, points_keeps _ main_v1 (by decide),
    background_keeps _ main_v1 (by decide), background_keeps _ main_v17 (by decide), background_keeps _ main_v2 (by decide),
    reconstruction_keeps _ main_v1 (by decide), reconstruction_keeps _ main_v17 (by decide),
    reconstruction_keeps _ main_v2 (by decide),
    -- what the other steps left
    distances_keeps _ main_v42 (by decide), distances_keeps _ main_v58 (by decide), distances_keeps _ main_v17 (by decide),
    distances_keeps _ main_v2 (by decide), distances_keeps _ main_v63 (by decide),
    places_keeps _ main_v42 (by decide), places_keeps _ main_v58 (by decide), places_keeps _ main_v17 (by decide),
    places_keeps _ main_v2 (by decide), places_keeps _ main_v63 (by decide),
    points_keeps _ main_v42 (by decide), points_keeps _ main_v58 (by decide), points_keeps _ main_v17 (by decide),
    points_keeps _ main_v2 (by decide), points_tops,
    background_keeps _ main_v42 (by decide), background_backgrounds, background_keeps _ main_v17 (by decide),
    background_keeps _ main_v2 (by decide), reconstruction_recons,
    reconstruction_keeps _ main_v0 (by decide), reconstruction_keeps _ main_v2 (by decide),
    reconstruction_keeps _ main_v6 (by decide), reconstruction_keeps _ main_v17 (by decide),
    setUp_scores, setUp_coords, setUp_masks, setUp_uncovered, setUp_charges, setUp_errors]
  rfl

/-- The whole line leaves the arguments as they were. -/
theorem ops_keeps (r : Ref sig .tc) (h : r ∈ [main_arg0, main_arg1, main_arg2, main_arg3, main_arg4]) :
    after ops V (Proc.devRef .tc r) = V (Proc.devRef .tc r) := by
  have h1 : r ∉ setUpOuts := by revert r; decide
  have h2 : r ∉ reconstructionOuts := by revert r; decide
  have h3 : r ∉ backgroundOuts := by revert r; decide
  have h4 : r ∉ pointsOuts := by revert r; decide
  have h5 : r ∉ placesOuts := by revert r; decide
  have h6 : r ∉ distancesOuts := by revert r; decide
  have h7 : r ∉ potentialsOuts := by revert r; decide
  simp only [ops, after_append]
  rw [potentials_keeps _ _ h7, distances_keeps _ _ h6, places_keeps _ _ h5, points_keeps _ _ h4,
    background_keeps _ _ h3, reconstruction_keeps _ _ h2, setUp_keeps _ _ h1]

end Stretches

/-! ## The run -/

/-- Every execution of the reference ends with the mean loss in the result buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112)
        = meanOf (lossesOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v112).trans (ops_mean _),
      (h c main_arg0).trans (ops_keeps _ _ (by decide)), (h c main_arg1).trans (ops_keeps _ _ (by decide)),
      (h c main_arg2).trans (ops_keeps _ _ (by decide)), (h c main_arg3).trans (ops_keeps _ _ (by decide)),
      (h c main_arg4).trans (ops_keeps _ _ (by decide))⟩)
    (run_seq scopedRefs_eq scopedSems_eq defs main (fun _ => ops) main_eq (fun _ => ops_sub) m ρ
      fun _ => ops_fresh)

end Cert.Ref

end
-- ==== Proof.RefLoss.lean ====
/- What the reference computes, image by image: the mean of the losses `Img.lossR`. -/
module

public import proofs.«01_k».proof.Proof.FirstMax
public import proofs.«01_k».proof.Proof.RefRun
public import proofs.«01_k».proof.Proof.Images
public import Idealize.ShloMosaic.Lib.Pointwise
public import Idealize.ShloMosaic.Lib.IdealHost

@[expose] public section

noncomputable section

namespace Cert.Ref

open Cert.ReferenceIdeal Cert.ReferenceIdeal.Gen Idealize.ShloMosaic Cert.Pixels Cert.Cond
open scoped BigOperators

/-! ## Along one axis -/

section Axes

theorem overPixels_apply (x : Arr Ideal S8x16384) (b : Fin 8) : overPixels x (ix1 b) = ∑ n, x (ix2 b n) := by
  unfold overPixels
  pointwise

theorem overObjects_apply (x : Arr Ideal S8x8x16384) (b : Fin 8) (n : Fin 16384) :
    overObjects x (ix2 b n) = ∑ k, x (ix3 b k n) := by
  unfold overObjects
  pointwise

theorem largest_apply (x : Arr Ideal S8x8x16384) (b k : Fin 8) :
    largest x (ix2 b k) = Finset.univ.sup fun n => x (ix3 b k n) := by
  unfold largest
  pointwise
  rw [neg_inf]
  rfl

theorem forObjects_apply (x : Arr Ideal S8x16384) (b k : Fin 8) (n : Fin 16384) : forObjects x (ix3 b k n) = x (ix2 b n) := by
  pointwise [forObjects]

end Axes

/-! ## The arguments, pixel by pixel -/

section Args

variable (X : Arr Ideal S8x128x128x2) (B : Arr Ideal S8x128x128) (M : Arr Ideal S8x8x128x128) (I T : Arr Ideal S8x1x128x128)
  (b k : Fin 8) (n : Fin 16384)

theorem scores_apply : scores B (ix2 b n) = (argImg X B M I T b).beta n := by
  pointwise [scores]
  rfl
theorem masks_apply : masks M (ix3 b k n) = (argImg X B M I T b).mask k n := by
  pointwise [masks]
  rfl
theorem errors_apply : errors I T (ix2 b n) = (argImg X B M I T b).err n := by
  pointwise [errors]
  rfl
theorem coords_apply_0 : coords X (ix3 b n 0) = (argImg X B M I T b).x0 n := by
  pointwise [coords]
  rfl
theorem coords_apply_1 : coords X (ix3 b n 1) = (argImg X B M I T b).x1 n := by
  pointwise [coords]
  rfl

end Args

/-! ## The steps, pixel by pixel -/

section Steps

variable (x : Arr Ideal S8x16384x2) (be nz q er : Arr Ideal S8x16384) (mk d : Arr Ideal S8x8x16384) (tp : Arr Ideal S8x8x1)
  (rc bg l : Arr Ideal S8) (ij : Int32s Ideal S8x8x2) (p : Int32s Ideal S8x8) (b k : Fin 8) (n : Fin 16384)

theorem uncovered_apply : uncovered mk (ix2 b n) = if ∑ k, mk (ix3 b k n) < 1 then 1 else 0 := by
  rw [← overObjects_apply]
  unfold uncovered
  generalize overObjects mk = s
  pointwise [perPixel]
  show (((BitVec.ofBool (decide (s (ix2 b n) < 1))).toNat : ℝ) : EReal) = _
  by_cases h : s (ix2 b n) < 1
  · rw [if_pos h, decide_eq_true h]
    simp
  · rw [if_neg h, decide_eq_false h]
    simp

theorem charges_apply : charges be (ix2 b n) = charge (be (ix2 b n)) := by
  pointwise [charges, halfLog, perPixel]
  rfl

theorem weights_apply : weights nz q (ix2 b n) = (1 - nz (ix2 b n)) * (q (ix2 b n) - tenth) := by
  pointwise [weights, perPixel]
  rfl

theorem recons_apply : recons nz q er (ix1 b)
    = if ∑ n, weights nz q (ix2 b n) = 0 then 0
      else Ideal.div (∑ n, weights nz q (ix2 b n) * er (ix2 b n))
        (if ∑ n, weights nz q (ix2 b n) = 0 then 1 else ∑ n, weights nz q (ix2 b n)) := by
  unfold recons weightless
  generalize weights nz q = w
  have e : ∑ n, w (ix2 b n) * er (ix2 b n) = overPixels (mulf w er) (ix1 b) := by
    rw [overPixels_apply]
    rfl
  rw [e, ← overPixels_apply w b]
  generalize overPixels w = s, overPixels (F := Ideal) (mulf (F := Ideal) w er) = t
  pointwise [perImage]
theorem backgrounds_apply : backgrounds be mk nz (ix1 b)
    = Ideal.div (∑ k, (1 - Finset.univ.sup fun n => be (ix2 b n) * mk (ix3 b k n))) eight
      + Ideal.div (tenth * ∑ n, nz (ix2 b n) * be (ix2 b n)) (∑ n, nz (ix2 b n)) := by
  have e1 : ∀ k, (Finset.univ.sup fun n => be (ix2 b n) * mk (ix3 b k n)) = largest (mulf (forObjects be) mk) (ix2 b k) :=
    fun k => by
      rw [largest_apply]
      refine Finset.sup_congr rfl fun n _ => ?_
      rw [← forObjects_apply be b k n]
      rfl
  have e2 : ∑ n, nz (ix2 b n) * be (ix2 b n) = overPixels (mulf nz be) (ix1 b) := by
    rw [overPixels_apply]
    rfl
  simp only [e1]
  rw [e2, ← overPixels_apply nz b]
  unfold backgrounds
  generalize largest (F := Ideal) (mulf (F := Ideal) (forObjects be) mk) = g, overPixels (F := Ideal) (mulf (F := Ideal) nz be) = s, overPixels nz = t
  pointwise [perImage, perObject]
  rfl

theorem tops_apply : tops q mk (ix3 b k 0) = Finset.univ.sup fun n => q (ix2 b n) * mk (ix3 b k n) := by
  have e : (Finset.univ.sup fun n => q (ix2 b n) * mk (ix3 b k n)) = largest (helds q mk) (ix2 b k) := by
    rw [largest_apply]
    refine Finset.sup_congr rfl fun n _ => ?_
    rw [← forObjects_apply q b k n]
    rfl
  rw [e]
  unfold tops
  generalize largest (helds q mk) = g
  pointwise

theorem spots_apply : spots q mk (ix2 b k)
    = BitVec.ofNat 32 (firstMax fun n => q (ix2 b n) * mk (ix3 b k n)).val := by
  have e : (fun n => q (ix2 b n) * mk (ix3 b k n)) = fun n => helds q mk (ix3 b k n) := funext fun n => by
    rw [← forObjects_apply q b k n]
    rfl
  rw [e]
  exact placeOf_apply (helds q mk) b k

/-- The gather reads the named image and place, each kept within bounds. -/
theorem fetch_apply (a : Fin 2) : fetch x ij (ix3 b k a)
    = x (ix3 ⟨min (ij (ix3 b k 0)).toInt.toNat 7, by omega⟩ ⟨min (ij (ix3 b k 1)).toInt.toNat 16383, by omega⟩ a) := by
  unfold fetch Host.gather
  congr 1
  funext c
  refine Fin.ext ?_
  show GatherDims.start _ _ ij c + GatherDims.batchCoord _ _ c + GatherDims.offCoord _ _ c = _
  rw [GatherDims.batchCoord_eq_zero _ _ _ (by simp [gather_S8x16384x2_S8x8x2_S8x8x2_2_01_n_n_01_2_112])]
  have hc : c = 0 ∨ c = 1 ∨ c = 2 := by
    match c with
    | ⟨0, _⟩ => exact .inl rfl
    | ⟨1, _⟩ => exact .inr (.inl rfl)
    | ⟨2, _⟩ => exact .inr (.inr rfl)
  rcases hc with rfl | rfl | rfl
  · rw [GatherDims.offCoord_eq_zero _ _ _ (fun h => ((GatherDims.mem_sKept _ _).mp h).1 (by decide))]
    unfold GatherDims.start
    rw [dif_pos (by decide)]
    have hs : gather_S8x16384x2_S8x8x2_S8x8x2_2_01_n_n_01_2_112.siIdx (ix3 b k a) ⟨0, by decide⟩ = ix3 b k 0 := by
      funext e
      refine Fin.ext ?_
      match e with
      | ⟨0, _⟩ => rfl
      | ⟨1, _⟩ => rfl
      | ⟨2, _⟩ => rfl
    exact congrArg (fun i => min (ij i).toInt.toNat 7) hs
  · rw [GatherDims.offCoord_eq_zero _ _ _ (fun h => ((GatherDims.mem_sKept _ _).mp h).1 (by decide))]
    unfold GatherDims.start
    rw [dif_pos (by decide)]
    have hs : gather_S8x16384x2_S8x8x2_S8x8x2_2_01_n_n_01_2_112.siIdx (ix3 b k a) ⟨1, by decide⟩ = ix3 b k 1 := by
      funext e
      refine Fin.ext ?_
      match e with
      | ⟨0, _⟩ => rfl
      | ⟨1, _⟩ => rfl
      | ⟨2, _⟩ => rfl
    exact congrArg (fun i => min (ij i).toInt.toNat 16383) hs
  · unfold GatherDims.start
    rw [dif_neg (by decide)]
    unfold GatherDims.offCoord
    rw [dif_pos (by decide)]
    have ha : ∀ e : Fin 3, e = 2 → (ix3 b k a e).val = a.val := by
      rintro _ rfl
      rfl
    exact (Nat.zero_add _).trans (ha _ (by decide))

theorem imageIx_apply : imageIx (F := Ideal) (ix2 b 0) = BitVec.ofNat 32 b.val := by
  pointwise [imageIx]
  revert b
  decide

/-- A place that is not negative is taken as it stands. -/
theorem placeIx_apply (h : (p (ix2 b k)).slt 0#32 = false) : placeIx (F := Ideal) p (ix2 b k) = p (ix2 b k) := by
  pointwise [placeIx]
  show Scalar.select (BitVec.ofBool ((p (ix2 b k)).slt 0#32)) _ _ = _
  rw [h]
  rfl

theorem pairs_apply_0 : pairs (F := Ideal) p (ix3 b k 0) = BitVec.ofNat 32 b.val := by
  rw [← imageIx_apply b]
  unfold pairs pairUp
  generalize imageIx (F := Ideal) = i, placeIx p = j
  pointwise

theorem pairs_apply_1 : pairs (F := Ideal) p (ix3 b k 1) = placeIx (F := Ideal) p (ix2 b k) := by
  unfold pairs pairUp
  generalize imageIx (F := Ideal) = i, placeIx p = j
  pointwise

theorem lengths_apply : lengths x ij (ix3 b k n)
    = Ideal.sqrt ((x (ix3 b n 0) - fetch x ij (ix3 b k 0)) * (x (ix3 b n 0) - fetch x ij (ix3 b k 0))
      + (x (ix3 b n 1) - fetch x ij (ix3 b k 1)) * (x (ix3 b n 1) - fetch x ij (ix3 b k 1))) := by
  unfold lengths offsets
  generalize fetch x ij = f
  pointwise
  rw [Fin.sum_univ_two]

theorem potential_apply : potential mk d tp (ix3 b k n)
    = mk (ix3 b k n) * (d (ix3 b k n) * d (ix3 b k n) * tp (ix3 b k 0))
      + (1 - mk (ix3 b k n)) * (max 0 (1 - d (ix3 b k n)) * tp (ix3 b k 0)) := by
  pointwise [potential, perBoth]

theorem losses_apply : losses rc bg q mk d tp (ix1 b)
    = rc (ix1 b) + 1 * (bg (ix1 b)
      + Ideal.div (∑ n, q (ix2 b n) * ∑ k, potential mk d tp (ix3 b k n)) count) := by
  unfold losses
  generalize potential mk d tp = v
  have e : ∑ n, q (ix2 b n) * ∑ k, v (ix3 b k n) = overPixels (mulf q (overObjects v)) (ix1 b) := by
    rw [overPixels_apply]
    refine Finset.sum_congr rfl fun n _ => ?_
    rw [← overObjects_apply v b n]
    rfl
  rw [e]
  generalize overPixels (mulf q (overObjects v)) = s
  pointwise [perImage]
  rfl

theorem meanOf_eq : meanOf l = fun _ => Ideal.div (∑ b, l (ix1 b)) eight := by
  funext i
  unfold meanOf
  pointwise
  rfl

end Steps

/-! ## The loss of an image -/

section Loss

variable (X : Arr Ideal S8x128x128x2) (B : Arr Ideal S8x128x128) (M : Arr Ideal S8x8x128x128) (I T : Arr Ideal S8x1x128x128)
  (b k : Fin 8) (n : Fin 16384)

theorem image_noise : uncovered (masks M) (ix2 b n) = (argImg X B M I T b).noise n := by
  rw [uncovered_apply, Img.noise]
  simp only [masks_apply X B M I T]

theorem image_q : charges (scores B) (ix2 b n) = (argImg X B M I T b).q n := by
  rw [charges_apply, scores_apply X B M I T, Img.q]

theorem image_weight : weights (uncovered (masks M)) (charges (scores B)) (ix2 b n) = (argImg X B M I T b).weight n := by
  rw [weights_apply, image_noise X B M I T, image_q X B M I T, Img.weight]

theorem image_recon : recons (uncovered (masks M)) (charges (scores B)) (errors I T) (ix1 b) = (argImg X B M I T b).recon := by
  rw [recons_apply, Img.recon]
  simp only [image_weight X B M I T, errors_apply X B M I T]

theorem image_background : backgrounds (scores B) (masks M) (uncovered (masks M)) (ix1 b)
    = Ideal.div (∑ k, (1 - (argImg X B M I T b).peak k)) eight + (argImg X B M I T b).noiseTerm := by
  rw [backgrounds_apply, Img.noiseTerm]
  simp only [image_noise X B M I T, scores_apply X B M I T, masks_apply X B M I T, Img.peak]

theorem image_top : tops (charges (scores B)) (masks M) (ix3 b k 0) = (argImg X B M I T b).top k := by
  rw [tops_apply, Img.top]
  simp only [image_q X B M I T, masks_apply X B M I T, Img.held]

theorem image_point : spots (charges (scores B)) (masks M) (ix2 b k) = BitVec.ofNat 32 ((argImg X B M I T b).point k).val := by
  have e : (fun n => charges (scores B) (ix2 b n) * masks M (ix3 b k n)) = (argImg X B M I T b).held k := funext fun n => by
    rw [image_q X B M I T, masks_apply X B M I T, Img.held]
  rw [spots_apply, e, Img.point]

/-- At an index array holding a pixel's number, the coordinates fetched are those of the pixel. -/
theorem fetch_pixel (x : Arr Ideal S8x16384x2) (p : Int32s Ideal S8x8) (z : Fin 16384)
    (hp : p (ix2 b k) = BitVec.ofNat 32 z.val) (a : Fin 2) : fetch x (pairs p) (ix3 b k a) = x (ix3 b z a) := by
  have hz := toInt_pixel z
  have hs : (p (ix2 b k)).slt 0#32 = false := by
    rw [hp, BitVec.slt, hz]
    exact decide_eq_false (not_lt.mpr (Int.natCast_nonneg _))
  rw [fetch_apply]
  congr 2
  · refine Fin.ext ?_
    show min (pairs p (ix3 b k 0)).toInt.toNat 7 = b.val
    rw [pairs_apply_0]
    clear hp hs
    revert b
    decide
  · refine Fin.ext ?_
    show min (pairs p (ix3 b k 1)).toInt.toNat 16383 = z.val
    rw [pairs_apply_1, placeIx_apply _ _ _ hs, hp, hz, Int.toNat_natCast]
    exact min_eq_left (Nat.le_of_lt_succ z.isLt)

theorem image_length : lengths (coords X) (pairs (spots (charges (scores B)) (masks M))) (ix3 b k n)
    = Ideal.sqrt ((argImg X B M I T b).dist k n) := by
  rw [lengths_apply, fetch_pixel b k _ _ _ (image_point X B M I T b k), fetch_pixel b k _ _ _ (image_point X B M I T b k)]
  simp only [coords_apply_0 X B M I T, coords_apply_1 X B M I T]
  rw [Img.dist]

/-- The loss the reference computes for an image. -/
theorem image_loss : lossesOf X B M I T (ix1 b) = (argImg X B M I T b).lossR := by
  rw [lossesOf, losses_apply, image_recon X B M I T, image_background X B M I T, Img.lossR]
  simp only [potential_apply, image_q X B M I T, masks_apply X B M I T, image_length X B M I T, image_top X B M I T, Img.potR]

end Loss

end Cert.Ref

end
-- ==== Proof.Agree.lean ====
/- The value claim: with masks between zero and one the kernel and the reference end with the same loss. -/
module

public import proofs.«01_k».proof.Defs
public import proofs.«01_k».proof.Proof.KernelRun
public import proofs.«01_k».proof.Proof.RefLoss
public import Idealize.ShloMosaic.Lib.ReduceAll

@[expose] public section

noncomputable section

namespace Cert.Agree

open Idealize.ShloMosaic Idealize.SL.Sem Cert.Pixels Cert.Cond

/-- What the precondition says of the masks: every entry lies between zero and one. -/
theorem between_zero_and_one [Cert.Pre_fractional_masks.Facts] (X : FVec Ideal Pre_fractional_masks.S8x128x128x2 .f32)
    (B : FVec Ideal Pre_fractional_masks.S8x128x128 .f32) (M : FVec Ideal Pre_fractional_masks.S8x8x128x128 .f32)
    (I T : FVec Ideal Pre_fractional_masks.S8x1x128x128 .f32)
    (h : Pre_fractional_masks.fn (F := Ideal) X B M I T = fun _ => 1#1) (i : Pre_fractional_masks.S8x8x128x128.Idx) :
    0 ≤ M i ∧ M i ≤ 1 := by
  have : Subsingleton Pre_fractional_masks.S_.Idx := ⟨fun _ _ => funext fun a => a.elim0⟩
  have h0 := congrFun h ix0
  simp only [Pre_fractional_masks.fn] at h0
  have e := Host.reduce_andi_all _ _ _ _ _ h0 i
  have e' : BitVec.ofBool (decide (Ideal.ofBits .f32 0x00000000#32 ≤ M i))
      &&& BitVec.ofBool (decide (M i ≤ Ideal.ofBits .f32 0x3F800000#32)) = 1#1 := e
  rw [Ideal.ofBits_zero_f32, show Ideal.ofBits .f32 0x3F800000#32 = 1 by simp] at e'
  have key : ∀ a b : Bool, BitVec.ofBool a &&& BitVec.ofBool b = 1#1 → a = true ∧ b = true := by decide
  exact ⟨of_decide_eq_true (key _ _ e').1, of_decide_eq_true (key _ _ e').2⟩

/-- An eighth of eight losses, summed, is their mean. -/
theorem sum_eighths (f : Fin 8 → EReal) : ∑ b, f b * eighth = Ideal.div (∑ b, f b) eight := by
  rw [div_eight, Fin.sum_univ_eight, Fin.sum_univ_eight]
  simp only [add_mul_eighth]

/-- The loss of both programs, as an array of no axes. -/
def mean (J : Fin 8 → Img) : Vec Ideal ⟨0, ![]⟩ .f32 := fun _ => ∑ b, (J b).lossK * eighth

/-- The mean of the reference's losses is the kernel's sum. -/
theorem losses_agree (X : Vec Ideal ⟨4, ![8, 128, 128, 2]⟩ .f32) (B : Vec Ideal ⟨3, ![8, 128, 128]⟩ .f32)
    (M : Vec Ideal ⟨4, ![8, 8, 128, 128]⟩ .f32) (I T : Vec Ideal ⟨4, ![8, 1, 128, 128]⟩ .f32)
    (hM : ∀ i, 0 ≤ M i ∧ M i ≤ 1) :
    Ref.meanOf (Ref.lossesOf (F := Ideal) X B M I T) = mean (argImg X B M I T) := by
  have e : ∀ b, Ref.lossesOf (F := Ideal) X B M I T (ix1 b) = (argImg X B M I T b).lossK := fun b => by
    have hI : (argImg X B M I T b).Fractional := fun k n => hM (ix4 b k (row n) (col n))
    rw [Img.lossK_eq_lossR _ hI]
    exact Ref.image_loss X B M I T b
  rw [Ref.meanOf_eq]
  unfold mean
  simp only [e, sum_eighths]

/-- Both programs run, end with equal results and leave their arguments. -/
theorem results_agree [Cert.Pre_fractional_masks.Facts] : algebraic_KernelIdeal_ReferenceIdeal_pre_fractional_masks := by
  intro m ρ m' ρ' hpre hargs
  refine ⟨fun c => mean (KernelIdeal.Gen.image m c), KernelIdeal.Gen.run_value m ρ, ?_⟩
  refine (θ_run Cert.ReferenceIdeal.defs _ _).mono (fun r h c => ⟨(h c).1.trans ?_, (h c).2⟩) (Ref.run (F := Ideal) m' ρ')
  obtain ⟨h0, h1, h2, h3, h4⟩ := hargs c
  rw [h0, h1, h2, h3, h4]
  exact losses_agree _ _ _ _ _ (between_zero_and_one _ _ _ _ _ (hpre c))

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_fractional_masks
public import proofs.«01_k».proof.Proof.Agree
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference runs, leaves its arguments, and owes no semaphore: it names none. -/
theorem frame_reference : Cert.quiescent_ReferenceIdeal := fun m ρ _ =>
  (θ_run Cert.ReferenceIdeal.defs _ _).mono (fun r h => ⟨fun c => (h c).2,
    sem_eq_zero_of_no_sems (by decide) r.2⟩) (Cert.Ref.run (F := Ideal) m ρ)

theorem claim : Cert.Claim := ⟨Cert.Kernel.Gen.facts, Cert.KernelIdeal.Gen.facts, Cert.ReferenceIdeal.Gen.facts,
  Cert.Pre_fractional_masks.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  Cert.Agree.results_agree⟩

end Cert.Proof

end
